-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x14336x8192 : Shape := ⟨3, ![2, 14336, 8192]⟩
abbrev S2x112x64 : Shape := ⟨3, ![2, 112, 64]⟩
abbrev S2x16x8192 : Shape := ⟨3, ![2, 16, 8192]⟩
abbrev S2x14336x16 : Shape := ⟨3, ![2, 14336, 16]⟩
abbrev S2x14336x256 : Shape := ⟨3, ![2, 14336, 256]⟩
abbrev S1x256x8192 : Shape := ⟨3, ![1, 256, 8192]⟩
abbrev S1x16x8192 : Shape := ⟨3, ![1, 16, 8192]⟩
abbrev S1x256x16 : Shape := ⟨3, ![1, 256, 16]⟩
abbrev S1x256x256 : Shape := ⟨3, ![1, 256, 256]⟩
abbrev S8192x16 : Shape := ⟨2, ![8192, 16]⟩
abbrev S16x256 : Shape := ⟨2, ![16, 256]⟩
abbrev S256x256 : Shape := ⟨2, ![256, 256]⟩
abbrev S1x16x128 : Shape := ⟨3, ![1, 16, 128]⟩
abbrev S16x128 : Shape := ⟨2, ![16, 128]⟩
abbrev S128x16 : Shape := ⟨2, ![128, 16]⟩
abbrev S256x16 : Shape := ⟨2, ![256, 16]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x1x1 : Shape := ⟨3, ![1, 1, 1]⟩
abbrev S1x128 : Shape := ⟨2, ![1, 128]⟩
abbrev S1x256 : Shape := ⟨2, ![1, 256]⟩
abbrev S144x256 : Shape := ⟨2, ![144, 256]⟩
abbrev S128x144 : Shape := ⟨2, ![128, 144]⟩
abbrev S4x32x256 : Shape := ⟨3, ![4, 32, 256]⟩
abbrev S4x256 : Shape := ⟨2, ![4, 256]⟩
abbrev S4x1x256 : Shape := ⟨3, ![4, 1, 256]⟩
abbrev S8x256 : Shape := ⟨2, ![8, 256]⟩

abbrev nBuf : Space → Nat
  | .hbm => 6
  | .vmem => 13
  | .smem => 1
  | _ => 0

abbrev bufTy : (tb : Table) → Fin (tcTables nBuf tb) → BufTy
  | .hbm, ⟨0, _⟩ => ⟨S2x14336x8192, .fp8e4m3⟩
  | .hbm, ⟨1, _⟩ => ⟨S2x112x64, .f32⟩
  | .hbm, ⟨2, _⟩ => ⟨S2x16x8192, .bf16⟩
  | .hbm, ⟨3, _⟩ => ⟨S2x14336x16, .bf16⟩
  | .hbm, ⟨4, _⟩ => ⟨S2x14336x8192, .fp8e4m3⟩
  | .hbm, ⟨5, _⟩ => ⟨S2x14336x256, .i8⟩
  | .local _ .vmem, ⟨0, _⟩ => ⟨S1x256x8192, .fp8e4m3⟩
  | .local _ .vmem, ⟨1, _⟩ => ⟨S1x256x8192, .fp8e4m3⟩
  | .local _ .vmem, ⟨2, _⟩ => ⟨S1x16x8192, .bf16⟩
  | .local _ .vmem, ⟨3, _⟩ => ⟨S1x16x8192, .bf16⟩
  | .local _ .vmem, ⟨4, _⟩ => ⟨S1x256x16, .bf16⟩
  | .local _ .vmem, ⟨5, _⟩ => ⟨S1x256x16, .bf16⟩
  | .local _ .vmem, ⟨6, _⟩ => ⟨S1x256x8192, .fp8e4m3⟩
  | .local _ .vmem, ⟨7, _⟩ => ⟨S1x256x8192, .fp8e4m3⟩
  | .local _ .vmem, ⟨8, _⟩ => ⟨S1x256x256, .i8⟩
  | .local _ .vmem, ⟨9, _⟩ => ⟨S1x256x256, .i8⟩
  | .local _ .vmem, ⟨10, _⟩ => ⟨S8192x16, .bf16⟩
  | .local _ .vmem, ⟨11, _⟩ => ⟨S16x256, .bf16⟩
  | .local _ .vmem, ⟨12, _⟩ => ⟨S256x256, .i32⟩
  | .local _ .smem, ⟨0, _⟩ => ⟨S2x112x64, .f32⟩
  | _, _ => ⟨S2x14336x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 56], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c64_i32 : BitVec 32 := 64#32
  let v22 : BitVec 32 := Scalar.addi c0_i32_12 c64_i32
  let c1_i32_13 : BitVec 32 := 1#32
  ⟨c0_i32_12, v22, c1_i32_13⟩
def k0_mult1 (k0_t1 : Fin k0_t1_loop.trips) : BitVec 32 :=
  let c0_i32_12 : BitVec 32 := 0#32
  let c1_i32_13 : BitVec 32 := 1#32
  let arg11 : BitVec 32 := Scf.iv c0_i32_12 c1_i32_13 k0_t1
  let c128_i32 : BitVec 32 := 128#32
  let v23 : BitVec 32 := Scalar.muli arg11 c128_i32
  v23
def k0_off1 (k0_t1 : Fin k0_t1_loop.trips) : Fin 3 → Nat :=
  let c0_15 : Index := 0#32
  let c0_16 : Index := 0#32
  let c0_i32_12 : BitVec 32 := 0#32
  let c1_i32_13 : BitVec 32 := 1#32
  let arg11 : BitVec 32 := Scf.iv c0_i32_12 c1_i32_13 k0_t1
  let c128_i32 : BitVec 32 := 128#32
  let v23 : BitVec 32 := Scalar.muli arg11 c128_i32
  let v24 : BitVec 32 := v23
  let v25 : Index := Scalar.indexCast v24
  ![0, 0, v25.toNat]
def k0_off2 (k0_t1 : Fin k0_t1_loop.trips) : Fin 2 → Nat :=
  let c0_i32_12 : BitVec 32 := 0#32
  let c1_i32_13 : BitVec 32 := 1#32
  let arg11 : BitVec 32 := Scf.iv c0_i32_12 c1_i32_13 k0_t1
  let c128_i32 : BitVec 32 := 128#32
  let v23 : BitVec 32 := Scalar.muli arg11 c128_i32
  let v24 : BitVec 32 := v23
  let v31 : Index := Scalar.indexCast v24
  let c0_17 : Index := 0#32
  ![v31.toNat, 0]
@[reducible] def k0_t2_loop : Scf.Loop 32 :=
  let c0_i32_5 : BitVec 32 := 0#32
  let c32_i32 : BitVec 32 := 32#32
  let v15 : BitVec 32 := Scalar.addi c0_i32_5 c32_i32
  let c1_i32 : BitVec 32 := 1#32
  ⟨c0_i32_5, v15, c1_i32⟩
def k0_mult2 (k0_t2 : Fin k0_t2_loop.trips) : BitVec 32 :=
  let c0_i32_5 : BitVec 32 := 0#32
  let c1_i32 : BitVec 32 := 1#32
  let arg11 : BitVec 32 := Scf.iv c0_i32_5 c1_i32 k0_t2
  let c2_i32 : BitVec 32 := 2#32
  let v22 : BitVec 32 := Scalar.muli arg11 c2_i32
  let c0_i32_12 : BitVec 32 := 0#32
  let v23 : BitVec 32 := Scalar.addi v22 c0_i32_12
  let c128_i32 : BitVec 32 := 128#32
  let v24 : BitVec 32 := Scalar.muli v23 c128_i32
  v24
def k0_off3 (k0_t2 : Fin k0_t2_loop.trips) (c0_i32_12 : BitVec 32) : Fin 3 → Nat :=
  let c0_13 : Index := 0#32
  let c0_14 : Index := 0#32
  let c0_i32_5 : BitVec 32 := 0#32
  let c1_i32 : BitVec 32 := 1#32
  let arg11 : BitVec 32 := Scf.iv c0_i32_5 c1_i32 k0_t2
  let c2_i32 : BitVec 32 := 2#32
  let v22 : BitVec 32 := Scalar.muli arg11 c2_i32
  let v23 : BitVec 32 := Scalar.addi v22 c0_i32_12
  let c128_i32 : BitVec 32 := 128#32
  let v24 : BitVec 32 := Scalar.muli v23 c128_i32
  let v25 : BitVec 32 := v24
  let v26 : Index := Scalar.indexCast v25
  ![0, 0, v26.toNat]
def k0_off4 (i : grid0.Coords) (k0_t2 : Fin k0_t2_loop.trips) (c0_i32_16 : BitVec 32) (c0_i32_12 : BitVec 32) : Fin 3 → Nat :=
  let arg0 : BitVec 32 := BitVec.ofNat 32 (i 0).val
  let v33 : Index := Scalar.indexCast arg0
  let arg1 : BitVec 32 := BitVec.ofNat 32 (i 1).val
  let c2_i32_15 : BitVec 32 := 2#32
  let v31 : BitVec 32 := Scalar.muli arg1 c2_i32_15
  let v32 : BitVec 32 := Scalar.addi v31 c0_i32_16
  let v34 : Index := Scalar.indexCast v32
  let c0_i32_5 : BitVec 32 := 0#32
  let c1_i32 : BitVec 32 := 1#32
  let arg11 : BitVec 32 := Scf.iv c0_i32_5 c1_i32 k0_t2
  let c2_i32 : BitVec 32 := 2#32
  let v22 : BitVec 32 := Scalar.muli arg11 c2_i32
  let v23 : BitVec 32 := Scalar.addi v22 c0_i32_12
  let v35 : Index := Scalar.indexCast v23
  ![v33.toNat, v34.toNat, v35.toNat]
def k0_off5 (k0_t2 : Fin k0_t2_loop.trips) (c0_i32_12 : BitVec 32) : Fin 2 → Nat :=
  let c0_i32_5 : BitVec 32 := 0#32
  let c1_i32 : BitVec 32 := 1#32
  let arg11 : BitVec 32 := Scf.iv c0_i32_5 c1_i32 k0_t2
  let c2_i32 : BitVec 32 := 2#32
  let v22 : BitVec 32 := Scalar.muli arg11 c2_i32
  let v23 : BitVec 32 := Scalar.addi v22 c0_i32_12
  let c128_i32 : BitVec 32 := 128#32
  let v24 : BitVec 32 := Scalar.muli v23 c128_i32
  let v25 : BitVec 32 := v24
  let v51 : Index := Scalar.indexCast v25
  let c0_21 : Index := 0#32
  ![v51.toNat, 0]
def k0_mult3 (k0_t2 : Fin k0_t2_loop.trips) : BitVec 32 :=
  let c0_i32_5 : BitVec 32 := 0#32
  let c1_i32 : BitVec 32 := 1#32
  let arg11 : BitVec 32 := Scf.iv c0_i32_5 c1_i32 k0_t2
  let c2_i32_45 : BitVec 32 := 2#32
  let v150 : BitVec 32 := Scalar.muli arg11 c2_i32_45
  let c1_i32_46 : BitVec 32 := 1#32
  let v151 : BitVec 32 := Scalar.addi v150 c1_i32_46
  let c128_i32_47 : BitVec 32 := 128#32
  let v152 : BitVec 32 := Scalar.muli v151 c128_i32_47
  v152
def k0_mult4 (k0_t2 : Fin k0_t2_loop.trips) : BitVec 32 :=
  let c0_i32_5 : BitVec 32 := 0#32
  let c1_i32 : BitVec 32 := 1#32
  let arg11 : BitVec 32 := Scf.iv c0_i32_5 c1_i32 k0_t2
  let c8_i32_89 : BitVec 32 := 8#32
  let v279 : BitVec 32 := Scalar.muli arg11 c8_i32_89
  v279
def k0_off6 (k0_t2 : Fin k0_t2_loop.trips) : Fin 2 → Nat :=
  let c0_i32_5 : BitVec 32 := 0#32
  let c1_i32 : BitVec 32 := 1#32
  let arg11 : BitVec 32 := Scf.iv c0_i32_5 c1_i32 k0_t2
  let c8_i32_89 : BitVec 32 := 8#32
  let v279 : BitVec 32 := Scalar.muli arg11 c8_i32_89
  let v280 : BitVec 32 := v279
  let v281 : Index := Scalar.indexCast v280
  let c0_90 : Index := 0#32
  ![v281.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S2x112x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x14336x8192 : Shape := ⟨3, ![2, 14336, 8192]⟩
abbrev S2x112x64 : Shape := ⟨3, ![2, 112, 64]⟩
abbrev S2x16x8192 : Shape := ⟨3, ![2, 16, 8192]⟩
abbrev S2x14336x16 : Shape := ⟨3, ![2, 14336, 16]⟩
abbrev S2x14336x256 : Shape := ⟨3, ![2, 14336, 256]⟩
abbrev S2x112x128x64x128 : Shape := ⟨5, ![2, 112, 128, 64, 128]⟩
abbrev S2x112x1x64x1 : Shape := ⟨5, ![2, 112, 1, 64, 1]⟩
abbrev S2x14336x256x32 : Shape := ⟨4, ![2, 14336, 256, 32]⟩
abbrev S1x1x1x252 : Shape := ⟨4, ![1, 1, 1, 252]⟩
abbrev S2x14336x256x1 : Shape := ⟨4, ![2, 14336, 256, 1]⟩
abbrev S2x14336x256x252 : Shape := ⟨4, ![2, 14336, 256, 252]⟩

abbrev nBuf : Space → Nat
  | .hbm => 6
  | .vmem => 6
  | .smem => 0
  | _ => 0

abbrev bufTy : (tb : Table) → Fin (tcTables nBuf tb) → BufTy
  | .hbm, ⟨0, _⟩ => ⟨S2x14336x8192, .fp8e4m3⟩
  | .hbm, ⟨1, _⟩ => ⟨S2x112x64, .f32⟩
  | .hbm, ⟨2, _⟩ => ⟨S2x16x8192, .bf16⟩
  | .hbm, ⟨3, _⟩ => ⟨S2x14336x16, .bf16⟩
  | .hbm, ⟨4, _⟩ => ⟨S2x14336x8192, .fp8e4m3⟩
  | .hbm, ⟨5, _⟩ => ⟨S2x14336x256, .i8⟩
  | .local _ .vmem, ⟨0, _⟩ => ⟨S2x14336x8192, .fp8e4m3⟩
  | .local _ .vmem, ⟨1, _⟩ => ⟨S2x112x64, .f32⟩
  | .local _ .vmem, ⟨2, _⟩ => ⟨S2x16x8192, .bf16⟩
  | .local _ .vmem, ⟨3, _⟩ => ⟨S2x14336x16, .bf16⟩
  | .local _ .vmem, ⟨4, _⟩ => ⟨S2x14336x8192, .fp8e4m3⟩
  | .local _ .vmem, ⟨5, _⟩ => ⟨S2x14336x256, .i8⟩
  | _, _ => ⟨S2x14336x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x14336x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x112x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x14336x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x14336x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x14336x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BitsTrips.lean ====
/- (The program before idealization; the same proof as in `KernelTrips`.) What one trip of each of the kernel's two counted loops stores, as explicit pieces, and what the pieces of all
   the trips amount to: each loop's pieces agree with one function of the buffer's index and cover the buffer. -/
module

public import proofs.«01_k».proof.Proof.Gen.Kernel.Frame
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe

variable {F : FTy → Type} [FloatOps F]

/-! ## The payloads of one block of 128 columns -/

/-- The quantized codes of one 256 x 128 tile: of its codes `w`, its two scales `s0`, `s1` (one per 128 rows), the
    transposed B block `b` and the tile's 128 rows `a` of the transposed, doubled A. -/
def qpay (w : Vec F S1x256x128 .fp8e4m3) (s0 s1 : Elt F .f32) (b : Vec F S16x256 .bf16) (a : Vec F S128x16 .bf16) : FVec F S1x256x128 .fp8e4m3 :=
  k0_pay12 (k0_pay6 k0_pay3 w s0 s1 b a) (k0_pay7 k0_pay3 w s0 s1 b a) (k0_pay10 (k0_pay7 k0_pay3 w s0 s1 b a) k0_pay8 k0_pay9)

/-- The four exponent rows of the same tile. -/
def epay (w : Vec F S1x256x128 .fp8e4m3) (s0 s1 : Elt F .f32) (b : Vec F S16x256 .bf16) (a : Vec F S128x16 .bf16) : IVec S4x256 32 :=
  k0_pay13 (k0_pay7 k0_pay3 w s0 s1 b a) (k0_pay10 (k0_pay7 k0_pay3 w s0 s1 b a) k0_pay8 k0_pay9)

/-- The exponent rows of a trip's two tiles, one above the other. -/
def epay2 (e0 e1 : IVec S4x256 32) : IVec S8x256 32 :=
  k0_pay4 (concatenate S8x256 0 [⟨S4x256, e0⟩, ⟨S4x256, e1⟩] concatenates_S4x256_S4x256_S8x256_d0)

/-! ## The trips' pieces -/

section Trips

variable (𝒱 : Variants) (c : Dev nD) (bd : Option 𝒱.V) (i : grid0.Coords) (arg2 : Memref sig .tc .smem S2x112x64 .f32) (harg2 : arg2.IsWhole) (arg3 : Memref sig .tc .vmem S1x256x8192 .fp8e4m3) (harg3 : arg3.IsWhole) (arg4 : Memref sig .tc .vmem S1x16x8192 .bf16) (harg4 : arg4.IsWhole) (arg5 : Memref sig .tc .vmem S1x256x16 .bf16) (harg5 : arg5.IsWhole) (arg6 : Memref sig .tc .vmem S1x256x8192 .fp8e4m3) (harg6 : arg6.IsWhole) (arg7 : Memref sig .tc .vmem S1x256x256 .i8) (harg7 : arg7.IsWhole) (arg8 : Memref sig .tc .vmem S8192x16 .bf16) (harg8 : arg8.IsWhole) (arg9 : Memref sig .tc .vmem S16x256 .bf16) (harg9 : arg9.IsWhole) (arg10 : Memref sig .tc .vmem S256x256 .i32) (harg10 : arg10.IsWhole)

/-- The first loop's trip stores one tile of the transposed, doubled A. -/
theorem trip1_eq (h1 : k0_cond1 i = 1#1) (X4 : BufTy.Contents (Elt F) arg4.view.ty) (k : Fin k0_t1_loop.trips) :
    (trip_k0_t1 (F := F) 𝒱 c bd i arg2 harg2 arg3 harg3 arg4 harg4 arg5 harg5 arg6 harg6 arg7 harg7 arg8 harg8 arg9 harg9 arg10 harg10 h1 X4 k).1
      = [⟨Rect.unit (s := S8192x16) (k0_off2 k) S128x16.size (k0_off2_inb i k h1),
          k0_pay1 (View.readAt (Elt F) arg4.view (Rect.unit (s := S1x16x8192) (k0_off1 k) S1x16x128.size (k0_off1_inb i k h1)).toLoadRect X4)⟩] := by
  unfold trip_k0_t1
  rfl

/-- Tile `u` of trip `k`: the codes read from the block's columns. -/
abbrev tileW (X3 : BufTy.Contents (Elt F) arg3.view.ty) (k : Fin k0_t2_loop.trips) (u : Fin 2) : Vec F S1x256x128 .fp8e4m3 :=
  View.readAt (Elt F) arg3.view (Rect.unit (s := S1x256x8192) (k0_off3 k (BitVec.ofNat 32 u.val)) S1x256x128.size (k0_off3_inb k u)).toLoadRect X3
/-- Tile `u` of trip `k`: its scale for rows `128 * v .. 128 * v + 127`. -/
abbrev tileS (X2 : BufTy.Contents (Elt F) arg2.view.ty) (k : Fin k0_t2_loop.trips) (v u : Fin 2) : Elt F .f32 :=
  View.readAt (Elt F) arg2.view (Rect.unit (s := S2x112x64) (k0_off4 i k (BitVec.ofNat 32 v.val) (BitVec.ofNat 32 u.val)) S1x1x1.size (k0_off4_inb i k v u)).toLoadRect X2
    (Shape.Idx.first (s := S1x1x1) (by decide))
/-- Tile `u` of trip `k`: its rows of the transposed A. -/
abbrev tileA (X8 : BufTy.Contents (Elt F) arg8.view.ty) (k : Fin k0_t2_loop.trips) (u : Fin 2) : Vec F S128x16 .bf16 :=
  View.readAt (Elt F) arg8.view (Rect.unit (s := S8192x16) (k0_off5 k (BitVec.ofNat 32 u.val)) S128x16.size (k0_off5_inb k u)).toLoadRect X8
/-- The transposed B block. -/
abbrev tileB (X9 : BufTy.Contents (Elt F) arg9.view.ty) : Vec F S16x256 .bf16 :=
  View.readAt (Elt F) arg9.view (Rect.unit (s := S16x256) ![0, 0] S16x256.size inb_S16x256_S16x256_0_0).toLoadRect X9

/-- Tile `u`'s codes and exponents, of what the buffers hold. -/
abbrev tileQ (X2 : BufTy.Contents (Elt F) arg2.view.ty) (X3 : BufTy.Contents (Elt F) arg3.view.ty) (X8 : BufTy.Contents (Elt F) arg8.view.ty) (X9 : BufTy.Contents (Elt F) arg9.view.ty) (k : Fin k0_t2_loop.trips) (u : Fin 2) : FVec F S1x256x128 .fp8e4m3 :=
  qpay (tileW arg3 X3 k u) (tileS i arg2 X2 k 0 u) (tileS i arg2 X2 k 1 u) (tileB arg9 X9) (tileA arg8 X8 k u)
abbrev tileE (X2 : BufTy.Contents (Elt F) arg2.view.ty) (X3 : BufTy.Contents (Elt F) arg3.view.ty) (X8 : BufTy.Contents (Elt F) arg8.view.ty) (X9 : BufTy.Contents (Elt F) arg9.view.ty) (k : Fin k0_t2_loop.trips) (u : Fin 2) : IVec S4x256 32 :=
  epay (tileW arg3 X3 k u) (tileS i arg2 X2 k 0 u) (tileS i arg2 X2 k 1 u) (tileB arg9 X9) (tileA arg8 X8 k u)

set_option maxHeartbeats 2000000 in
/-- The second loop's trip stores the codes of its two tiles. -/
theorem trip2_q_eq (a0 a1 : BitVec 32) (X2 : BufTy.Contents (Elt F) arg2.view.ty) (X3 : BufTy.Contents (Elt F) arg3.view.ty) (X8 : BufTy.Contents (Elt F) arg8.view.ty) (X9 : BufTy.Contents (Elt F) arg9.view.ty) (k : Fin k0_t2_loop.trips) :
    (trip_k0_t2 (F := F) 𝒱 c bd i arg2 harg2 arg3 harg3 arg4 harg4 arg5 harg5 arg6 harg6 arg7 harg7 arg8 harg8 arg9 harg9 arg10 harg10 a0 a1 X2 X3 X8 X9 k).1
      = [⟨Rect.unit (s := S1x256x8192) (k0_off3 k (BitVec.ofNat 32 (1 : Fin 2).val)) S1x256x128.size (k0_off3_inb k 1), tileQ i arg2 arg3 arg8 arg9 X2 X3 X8 X9 k 1⟩,
         ⟨Rect.unit (s := S1x256x8192) (k0_off3 k (BitVec.ofNat 32 (0 : Fin 2).val)) S1x256x128.size (k0_off3_inb k 0), tileQ i arg2 arg3 arg8 arg9 X2 X3 X8 X9 k 0⟩] := by
  unfold trip_k0_t2
  rfl

set_option maxHeartbeats 2000000 in
/-- ... and their exponent rows. -/
theorem trip2_e_eq (a0 a1 : BitVec 32) (X2 : BufTy.Contents (Elt F) arg2.view.ty) (X3 : BufTy.Contents (Elt F) arg3.view.ty) (X8 : BufTy.Contents (Elt F) arg8.view.ty) (X9 : BufTy.Contents (Elt F) arg9.view.ty) (k : Fin k0_t2_loop.trips) :
    (trip_k0_t2 (F := F) 𝒱 c bd i arg2 harg2 arg3 harg3 arg4 harg4 arg5 harg5 arg6 harg6 arg7 harg7 arg8 harg8 arg9 harg9 arg10 harg10 a0 a1 X2 X3 X8 X9 k).2.1
      = [⟨Rect.unit (s := S256x256) (k0_off6 k) S8x256.size (k0_off6_inb k), epay2 (tileE i arg2 arg3 arg8 arg9 X2 X3 X8 X9 k 0) (tileE i arg2 arg3 arg8 arg9 X2 X3 X8 X9 k 1)⟩] := by
  unfold trip_k0_t2
  rfl

end Trips

end Cert.Kernel.Hand

end
-- ==== Proof.BitsLoops.lean ====
/- (The program before idealization; the same proof as in `KernelLoops`.) What the kernel's two counted loops leave in the buffers they fill, as functions of the point's input blocks. -/
module

public import proofs.«01_k».proof.Proof.BitsTrips
public import Idealize.ShloMosaic.Lib.ValueIdxCore
public import Idealize.ShloMosaic.Lib.Pipeline.Value
public import Idealize.ShloMosaic.Lib.Pipeline.ValueKit.Tiles

@[expose] public section

set_option maxRecDepth 16384

noncomputable section

namespace Cert.Kernel.Hand

open Cert.Kernel Cert.Kernel.Gen
open Idealize.ShloMosaic Idealize.ShloMosaic.TcCoe Idealize.ShloMosaic.ValueIdx

variable {F : FTy → Type} [FloatOps F]

/-- The transposing loop's number of trips. -/
theorem trips1 : k0_t1_loop.trips = 64 := by decide +kernel
/-- The tile loop's number of trips. -/
theorem trips2 : k0_t2_loop.trips = 32 := by decide +kernel

/-- A unit-stride rectangle's read index, its offsets in closed form. -/
theorem ldIdx {s : Shape} {off off' : Fin s.rank → ℕ} (size : Fin s.rank → ℕ) (inb : ∀ a, off a + size a ≤ s.size a) (h : off = off') (x : (Rect.unit off size inb).shape.Idx) (a : Fin s.rank) :
    ((Rect.unit off size inb).toLoadRect.idx x a).val = off' a + (x a).val := by
  subst h
  rw [LoadRect.idx_apply]
  show off a + 1 * (x a).val = _
  omega
/-- The same of the rectangle's placing. -/
theorem embIdx {s : Shape} {off off' : Fin s.rank → ℕ} (size : Fin s.rank → ℕ) (inb : ∀ a, off a + size a ≤ s.size a) (h : off = off') (x : (Rect.unit off size inb).shape.Idx) (a : Fin s.rank) :
    ((Rect.unit off size inb).emb x a).val = off' a + (x a).val := ldIdx size inb h x a

/-! ## A tile's operands, of the input blocks -/

/-- Columns `128 n .. 128 n + 127` of the codes block. -/
def wT (x1 : Vec F S1x256x8192 .fp8e4m3) (n : Fin 64) : Vec F S1x256x128 .fp8e4m3 :=
  fun j => x1 (ix3 0 (j 1) ⟨128 * n.val + (j 2).val, by have h : (j 2).val < 128 := (j 2).isLt; omega⟩)
/-- The scale of rows `128 v ..` and columns `128 n ..` of the block of point `i`. -/
def sT (x0 : Vec F S2x112x64 .f32) (i : grid0.Coords) (v : Fin 2) (n : Fin 64) : Elt F .f32 :=
  x0 (ix3 (i 0) ⟨2 * (i 1).val + v.val, by have h : (i 1).val < 56 := (i 1).isLt; omega⟩ n)
/-- Rows `128 n ..` of the transposed A. -/
def aT (x8 : Vec F S8192x16 .bf16) (n : Fin 64) : Vec F S128x16 .bf16 :=
  fun j => x8 (ix2 ⟨128 * n.val + (j 0).val, by have h : (j 0).val < 128 := (j 0).isLt; omega⟩ (j 1))
/-- The transposed, doubled A block. -/
def AT (x2 : Vec F S1x16x8192 .bf16) : Vec F S8192x16 .bf16 := fun y =>
  k0_pay1 (fun j : S1x16x128.Idx => x2 (ix3 0 (j 1) ⟨128 * ((y 0).val / 128) + (j 2).val, by
    have h : (j 2).val < 128 := (j 2).isLt
    have h' : (y 0).val < 8192 := (y 0).isLt
    omega⟩)) (ix2 ⟨(y 0).val % 128, Nat.mod_lt _ (by omega)⟩ (y 1))

/-- The codes of tile `n`. -/
def qT (i : grid0.Coords) (x0 : Vec F S2x112x64 .f32) (x1 : Vec F S1x256x8192 .fp8e4m3) (x8 : Vec F S8192x16 .bf16) (x9 : Vec F S16x256 .bf16) (n : Fin 64) : FVec F S1x256x128 .fp8e4m3 :=
  qpay (wT x1 n) (sT x0 i 0 n) (sT x0 i 1 n) x9 (aT x8 n)
/-- The exponent rows of tile `n`. -/
def eT (i : grid0.Coords) (x0 : Vec F S2x112x64 .f32) (x1 : Vec F S1x256x8192 .fp8e4m3) (x8 : Vec F S8192x16 .bf16) (x9 : Vec F S16x256 .bf16) (n : Fin 64) : IVec S4x256 32 :=
  epay (wT x1 n) (sT x0 i 0 n) (sT x0 i 1 n) x9 (aT x8 n)
/-- All codes of the block. -/
def QB' (i : grid0.Coords) (x0 : Vec F S2x112x64 .f32) (x1 : Vec F S1x256x8192 .fp8e4m3) (x8 : Vec F S8192x16 .bf16) (x9 : Vec F S16x256 .bf16) : Vec F S1x256x8192 .fp8e4m3 := fun y =>
  qT i x0 x1 x8 x9 ⟨(y 2).val / 128, by have h : (y 2).val < 8192 := (y 2).isLt; omega⟩ (ix3 0 (y 1) ⟨(y 2).val % 128, Nat.mod_lt _ (by omega)⟩)
/-- All exponent rows of the block: row `4 n + g` is group `g` of tile `n`. -/
def ES' (i : grid0.Coords) (x0 : Vec F S2x112x64 .f32) (x1 : Vec F S1x256x8192 .fp8e4m3) (x8 : Vec F S8192x16 .bf16) (x9 : Vec F S16x256 .bf16) : Vec F S256x256 .i32 := fun y =>
  eT i x0 x1 x8 x9 ⟨(y 0).val / 4, by have h : (y 0).val < 256 := (y 0).isLt; omega⟩ (ix2 ⟨(y 0).val % 4, Nat.mod_lt _ (by omega)⟩ (y 1))

/-- Tile `u` of trip `k` is tile `2 k + u` of the block. -/
def tileNo (k : Fin k0_t2_loop.trips) (u : Fin 2) : Fin 64 := ⟨2 * k.val + u.val, by have h : k.val < 32 := lt_of_lt_of_eq k.isLt trips2; omega⟩

section Tiles

variable (i : grid0.Coords) (arg2 : Memref sig .tc .smem S2x112x64 .f32) (arg3 : Memref sig .tc .vmem S1x256x8192 .fp8e4m3) (arg4 : Memref sig .tc .vmem S1x16x8192 .bf16) (arg8 : Memref sig .tc .vmem S8192x16 .bf16) (arg9 : Memref sig .tc .vmem S16x256 .bf16)
  (X2 : BufTy.Contents (Elt F) arg2.view.ty) (X3 : BufTy.Contents (Elt F) arg3.view.ty) (X8 : BufTy.Contents (Elt F) arg8.view.ty) (X9 : BufTy.Contents (Elt F) arg9.view.ty) (k : Fin k0_t2_loop.trips)

/-- The codes a trip reads for one of its tiles. -/
theorem tileW_eq (x1 : Vec F S1x256x8192 .fp8e4m3) (h : arg3.view.read (Elt F) X3 = x1) (u : Fin 2) : tileW arg3 X3 k u = wT x1 (tileNo k u) := by
  subst h
  funext j
  rw [tileW, View.readAt_apply]
  unfold wT
  refine congrArg _ (funext fun a => Fin.ext ?_)
  refine (ldIdx _ _ (k0_off3_eq k u) j a).trans ?_
  match a with
  | ⟨0, _⟩ => have h : (j 0).val < 1 := (j 0).isLt; show 0 + (j 0).val = 0; omega
  | ⟨1, _⟩ => show 0 + (j 1).val = (j 1).val; omega
  | ⟨2, _⟩ => show 256 * k.val + 128 * u.val + (j 2).val = 128 * (2 * k.val + u.val) + (j 2).val; omega

/-- A scale a trip reads for one of its tiles. -/
theorem tileS_eq (x0 : Vec F S2x112x64 .f32) (h : arg2.view.read (Elt F) X2 = x0) (v u : Fin 2) : tileS i arg2 X2 k v u = sT x0 i v (tileNo k u) := by
  subst h
  rw [tileS, View.readAt_apply]
  unfold sT
  refine congrArg _ (funext fun a => Fin.ext ?_)
  refine (ldIdx _ _ (k0_off4_eq i k v u) _ a).trans ?_
  match a with
  | ⟨0, _⟩ => show (i 0).val + 0 = (i 0).val; omega
  | ⟨1, _⟩ => show 2 * (i 1).val + v.val + 0 = 2 * (i 1).val + v.val; omega
  | ⟨2, _⟩ => show 2 * k.val + u.val + 0 = 2 * k.val + u.val; omega

/-- The rows of the transposed A a trip reads for one of its tiles. -/
theorem tileA_eq (x8 : Vec F S8192x16 .bf16) (h : arg8.view.read (Elt F) X8 = x8) (u : Fin 2) : tileA arg8 X8 k u = aT x8 (tileNo k u) := by
  subst h
  funext j
  rw [tileA, View.readAt_apply]
  unfold aT
  refine congrArg _ (funext fun a => Fin.ext ?_)
  refine (ldIdx _ _ (k0_off5_eq k u) j a).trans ?_
  match a with
  | ⟨0, _⟩ => show 256 * k.val + 128 * u.val + (j 0).val = 128 * (2 * k.val + u.val) + (j 0).val; omega
  | ⟨1, _⟩ => show 0 + (j 1).val = (j 1).val; omega

/-- The transposed B a trip reads. -/
theorem tileB_eq (x9 : Vec F S16x256 .bf16) (h : arg9.view.read (Elt F) X9 = x9) : tileB arg9 X9 = x9 := by
  subst h
  funext j
  rw [tileB, View.readAt_apply]
  refine congrArg _ (funext fun a => Fin.ext ?_)
  refine (ldIdx _ _ rfl j a).trans ?_
  match a with
  | ⟨0, _⟩ => show 0 + (j 0).val = (j 0).val; omega
  | ⟨1, _⟩ => show 0 + (j 1).val = (j 1).val; omega

variable {X2 X3 X8 X9}
variable {x0 : Vec F S2x112x64 .f32} {x1 : Vec F S1x256x8192 .fp8e4m3} {x8 : Vec F S8192x16 .bf16} {x9 : Vec F S16x256 .bf16}
  (h2 : arg2.view.read (Elt F) X2 = x0) (h3 : arg3.view.read (Elt F) X3 = x1) (h8 : arg8.view.read (Elt F) X8 = x8) (h9 : arg9.view.read (Elt F) X9 = x9)
include h2 h3 h8 h9

/-- The quantized codes a trip stores for one of its tiles. -/
theorem tileQ_eq (u : Fin 2) : tileQ i arg2 arg3 arg8 arg9 X2 X3 X8 X9 k u = qT i x0 x1 x8 x9 (tileNo k u) := by
  unfold tileQ qT
  rw [tileW_eq arg3 X3 k x1 h3, tileS_eq i arg2 X2 k x0 h2, tileS_eq i arg2 X2 k x0 h2, tileB_eq arg9 X9 x9 h9, tileA_eq arg8 X8 k x8 h8]

/-- The exponents a trip stores for one of its tiles. -/
theorem tileE_eq (u : Fin 2) : tileE i arg2 arg3 arg8 arg9 X2 X3 X8 X9 k u = eT i x0 x1 x8 x9 (tileNo k u) := by
  unfold tileE eT
  rw [tileW_eq arg3 X3 k x1 h3, tileS_eq i arg2 X2 k x0 h2, tileS_eq i arg2 X2 k x0 h2, tileB_eq arg9 X9 x9 h9, tileA_eq arg8 X8 k x8 h8]

end Tiles

/-- Row `y` of a trip's eight exponent rows is row `y % 4` of tile `y / 4`. -/
theorem epay2_apply (e : Fin 2 → IVec S4x256 32) (y : S8x256.Idx) :
    epay2 (e 0) (e 1) y = e ⟨(y 0).val / 4, by have h : (y 0).val < 8 := (y 0).isLt; omega⟩ (ix2 ⟨(y 0).val % 4, Nat.mod_lt _ (by omega)⟩ (y 1)) := by
  have hy : (y 0).val < 8 := (y 0).isLt
  have h4 : epay2 (e 0) (e 1) y = concatenate S8x256 0 [⟨S4x256, e 0⟩, ⟨S4x256, e 1⟩] concatenates_S4x256_S4x256_S8x256_d0 y := by
    unfold epay2 k0_pay4
    exact shapeCast_apply _ _ _ y rfl
  rw [h4]
  by_cases h : (y 0).val < 4
  · have e0 : (⟨(y 0).val / 4, by omega⟩ : Fin 2) = 0 := Fin.ext (by show (y 0).val / 4 = 0; omega)
    rw [e0]
    refine concatenate_pair_apply_left (t := S8x256) (s₁ := S4x256) (s₂ := S4x256) 0 (e 0) (e 1) _ y rfl _ fun b => ?_
    match b with
    | ⟨0, _⟩ => show (y 0).val % 4 = (y 0).val; omega
    | ⟨1, _⟩ => rfl
  · have e1 : (⟨(y 0).val / 4, by omega⟩ : Fin 2) = 1 := Fin.ext (by show (y 0).val / 4 = 1; omega)
    rw [e1]
    refine concatenate_pair_apply_right (t := S8x256) (s₁ := S4x256) (s₂ := S4x256) 0 (e 0) (e 1) _ y rfl rfl _ (fun b hb => ?_) ?_
    · match b with
      | ⟨0, _⟩ => exact absurd rfl hb
      | ⟨1, _⟩ => rfl
    · show (y 0).val % 4 + 4 = (y 0).val; omega

/-! ## All the trips -/

/-- A piece in front of pieces that agree with `G`. -/
theorem agree_cons {S : Shape} {e : EltTy} {G : S.Idx → Elt F e} {r : Rect S} {w : r.shape.Idx → Elt F e} {L : List (View.Piece (Elt F) S e)} (h : ∀ x, w x = G (r.emb x))
    (hL : ∀ p ∈ L, ∀ x : p.1.shape.Idx, p.2 x = G (p.1.emb x)) : ∀ p ∈ (⟨r, w⟩ : View.Piece (Elt F) S e) :: L, ∀ x : p.1.shape.Idx, p.2 x = G (p.1.emb x) := by
  intro p hp
  rcases List.mem_cons.mp hp with hp | hp
  · subst hp; exact h
  · exact hL p hp

section All

variable (𝒱 : Variants) (c : Dev nD) (bd : Option 𝒱.V) (i : grid0.Coords) (arg2 : Memref sig .tc .smem S2x112x64 .f32) (harg2 : arg2.IsWhole) (arg3 : Memref sig .tc .vmem S1x256x8192 .fp8e4m3) (harg3 : arg3.IsWhole) (arg4 : Memref sig .tc .vmem S1x16x8192 .bf16) (harg4 : arg4.IsWhole) (arg5 : Memref sig .tc .vmem S1x256x16 .bf16) (harg5 : arg5.IsWhole) (arg6 : Memref sig .tc .vmem S1x256x8192 .fp8e4m3) (harg6 : arg6.IsWhole) (arg7 : Memref sig .tc .vmem S1x256x256 .i8) (harg7 : arg7.IsWhole) (arg8 : Memref sig .tc .vmem S8192x16 .bf16) (harg8 : arg8.IsWhole) (arg9 : Memref sig .tc .vmem S16x256 .bf16) (harg9 : arg9.IsWhole) (arg10 : Memref sig .tc .vmem S256x256 .i32) (harg10 : arg10.IsWhole)

/-- The first loop's pieces agree with `AT`, and the pieces of the trips before `k` cover rows below `128 k`. -/
theorem pb1_spec (h1 : k0_cond1 i = 1#1) (X4 : BufTy.Contents (Elt F) arg4.view.ty) (x2 : Vec F S1x16x8192 .bf16) (h4 : arg4.view.read (Elt F) X4 = x2) :
    ∀ k : ℕ, k ≤ k0_t1_loop.trips →
      (∀ p ∈ pb_k0_t1 (F := F) 𝒱 c bd i arg2 harg2 arg3 harg3 arg4 harg4 arg5 harg5 arg6 harg6 arg7 harg7 arg8 harg8 arg9 harg9 arg10 harg10 h1 X4 k, ∀ x : p.1.shape.Idx, p.2 x = AT x2 (p.1.emb x)) ∧
      (∀ y : S8192x16.Idx, (y 0).val < 128 * k → ∃ p ∈ pb_k0_t1 (F := F) 𝒱 c bd i arg2 harg2 arg3 harg3 arg4 harg4 arg5 harg5 arg6 harg6 arg7 harg7 arg8 harg8 arg9 harg9 arg10 harg10 h1 X4 k, y ∈ p.1.set)
  | 0, _ => ⟨fun p hp => absurd hp List.not_mem_nil, fun y hy => absurd hy (by omega)⟩
  | k + 1, hk => by
    obtain ⟨iha, ihc⟩ := pb1_spec h1 X4 x2 h4 k (by omega)
    have hs := pb_k0_t1_succ (F := F) 𝒱 c bd i arg2 harg2 arg3 harg3 arg4 harg4 arg5 harg5 arg6 harg6 arg7 harg7 arg8 harg8 arg9 harg9 arg10 harg10 h1 X4 ⟨k, hk⟩
    rw [tripL_k0_t1, trip1_eq] at hs
    dsimp only at hs
    rw [hs]
    refine ⟨fun p hp => ?_, fun y hy => ?_⟩
    · rcases List.mem_append.mp hp with hp | hp
      · rw [List.mem_singleton.mp hp]
        intro x
        have hx0 : (x 0).val < 128 := (x 0).isLt
        have hx1 : (x 1).val < 16 := (x 1).isLt
        subst h4
        have e0 : ((Rect.unit (s := S8192x16) (k0_off2 ⟨k, hk⟩) S128x16.size (k0_off2_inb i ⟨k, hk⟩ h1)).emb x 0).val = 128 * k + (x 0).val := by
          exact (embIdx (s := S8192x16) S128x16.size (k0_off2_inb i ⟨k, hk⟩ h1) (k0_off2_eq ⟨k, hk⟩) x _).trans (by rfl)
        have e1 : ((Rect.unit (s := S8192x16) (k0_off2 ⟨k, hk⟩) S128x16.size (k0_off2_inb i ⟨k, hk⟩ h1)).emb x 1) = x 1 := by
          refine Fin.ext ?_
          exact (embIdx (s := S8192x16) S128x16.size (k0_off2_inb i ⟨k, hk⟩ h1) (k0_off2_eq ⟨k, hk⟩) x _).trans (by show 0 + (x 1).val = (x 1).val; omega)
        unfold AT
        refine congr (congrArg (k0_pay1 (F := F)) (funext fun j => ?_)) ?_
        · rw [View.readAt_apply]
          refine congrArg _ (funext fun a => Fin.ext ?_)
          refine (ldIdx _ _ (k0_off1_eq ⟨k, hk⟩) j a).trans ?_
          match a with
          | ⟨0, _⟩ => have h : (j 0).val < 1 := (j 0).isLt; show 0 + (j 0).val = 0; omega
          | ⟨1, _⟩ => show 0 + (j 1).val = (j 1).val; omega
          | ⟨2, _⟩ => show 128 * k + (j 2).val = 128 * (_ / 128) + (j 2).val; rw [e0]; omega
        · funext a
          match a with
          | ⟨0, _⟩ => refine Fin.ext ?_; show (x 0).val = _ % 128; rw [e0]; omega
          | ⟨1, _⟩ => exact e1.symm
      · exact iha p hp
    · by_cases h : (y 0).val < 128 * k
      · obtain ⟨p, hp, hy⟩ := ihc y h
        exact ⟨p, List.mem_append_right _ hp, hy⟩
      · refine ⟨_, List.mem_append_left _ (List.mem_singleton_self _), ?_⟩
        rw [Rect.mem_set_unit]
        simp only [k0_off2_eq]
        intro a
        match a with
        | ⟨0, _⟩ => show 128 * k ≤ (y 0).val ∧ (y 0).val < 128 * k + 128; omega
        | ⟨1, _⟩ => have h : (y 1).val < 16 := (y 1).isLt; show 0 ≤ (y 1).val ∧ (y 1).val < 0 + 16; omega

/-- What the first loop leaves. -/
theorem loop1_read (h1 : k0_cond1 i = 1#1) (X4 : BufTy.Contents (Elt F) arg4.view.ty) (x2 : Vec F S1x16x8192 .bf16) (h4 : arg4.view.read (Elt F) X4 = x2) (G : BufTy.Contents (Elt F) arg8.view.ty) :
    arg8.view.read (Elt F) (arg8.view.writes (Elt F) G (pb_k0_t1 (F := F) 𝒱 c bd i arg2 harg2 arg3 harg3 arg4 harg4 arg5 harg5 arg6 harg6 arg7 harg7 arg8 harg8 arg9 harg9 arg10 harg10 h1 X4 k0_t1_loop.trips)) = AT x2 := by
  obtain ⟨ha, hc⟩ := pb1_spec (F := F) 𝒱 c bd i arg2 harg2 arg3 harg3 arg4 harg4 arg5 harg5 arg6 harg6 arg7 harg7 arg8 harg8 arg9 harg9 arg10 harg10 h1 X4 x2 h4 k0_t1_loop.trips (le_refl _)
  funext y
  have hy : (y 0).val < 8192 := (y 0).isLt
  exact View.read_writes_apply_of_pieces arg8.view G (AT x2) _ ha y (hc y (by rw [trips1]; omega))

variable (a0 a1 : BitVec 32) {X2 : BufTy.Contents (Elt F) arg2.view.ty} {X3 : BufTy.Contents (Elt F) arg3.view.ty} {X8 : BufTy.Contents (Elt F) arg8.view.ty} {X9 : BufTy.Contents (Elt F) arg9.view.ty}
  {x0 : Vec F S2x112x64 .f32} {x1 : Vec F S1x256x8192 .fp8e4m3} {x8 : Vec F S8192x16 .bf16} {x9 : Vec F S16x256 .bf16}
  (h2 : arg2.view.read (Elt F) X2 = x0) (h3 : arg3.view.read (Elt F) X3 = x1) (h8 : arg8.view.read (Elt F) X8 = x8) (h9 : arg9.view.read (Elt F) X9 = x9)
include h2 h3 h8 h9

/-- One tile's piece of the codes agrees with `QB'`. -/
theorem piece_q (k : Fin k0_t2_loop.trips) (u : Fin 2) (x : S1x256x128.Idx) :
    tileQ i arg2 arg3 arg8 arg9 X2 X3 X8 X9 k u x = QB' i x0 x1 x8 x9 ((Rect.unit (s := S1x256x8192) (k0_off3 k (BitVec.ofNat 32 u.val)) S1x256x128.size (k0_off3_inb k u)).emb x) := by
  have hx0 : (x 0).val < 1 := (x 0).isLt
  have hx2 : (x 2).val < 128 := (x 2).isLt
  have e1 : (Rect.unit (s := S1x256x8192) (k0_off3 k (BitVec.ofNat 32 u.val)) S1x256x128.size (k0_off3_inb k u)).emb x 1 = x 1 := by
    refine Fin.ext ?_
    exact (embIdx (s := S1x256x8192) S1x256x128.size (k0_off3_inb k u) (k0_off3_eq k u) x _).trans (by show 0 + (x 1).val = (x 1).val; omega)
  have e2 : ((Rect.unit (s := S1x256x8192) (k0_off3 k (BitVec.ofNat 32 u.val)) S1x256x128.size (k0_off3_inb k u)).emb x 2).val = 256 * k.val + 128 * u.val + (x 2).val := by
    exact (embIdx (s := S1x256x8192) S1x256x128.size (k0_off3_inb k u) (k0_off3_eq k u) x _).trans (by rfl)
  rw [tileQ_eq i arg2 arg3 arg8 arg9 k h2 h3 h8 h9]
  unfold QB'
  refine congr (congrArg (qT i x0 x1 x8 x9) (Fin.ext ?_)) ?_
  · show 2 * k.val + u.val = _ / 128; rw [e2]; omega
  · funext a
    match a with
    | ⟨0, _⟩ => exact Fin.ext (by show (x 0).val = 0; omega)
    | ⟨1, _⟩ => exact e1.symm
    | ⟨2, _⟩ => refine Fin.ext ?_; show (x 2).val = _ % 128; rw [e2]; omega

/-- One trip's piece of the exponent rows agrees with `ES'`. -/
theorem piece_e (k : Fin k0_t2_loop.trips) (x : S8x256.Idx) :
    epay2 (tileE i arg2 arg3 arg8 arg9 X2 X3 X8 X9 k 0) (tileE i arg2 arg3 arg8 arg9 X2 X3 X8 X9 k 1) x
      = ES' i x0 x1 x8 x9 ((Rect.unit (s := S256x256) (k0_off6 k) S8x256.size (k0_off6_inb k)).emb x) := by
  have hx0 : (x 0).val < 8 := (x 0).isLt
  have e0 : ((Rect.unit (s := S256x256) (k0_off6 k) S8x256.size (k0_off6_inb k)).emb x 0).val = 8 * k.val + (x 0).val := by
    exact (embIdx (s := S256x256) S8x256.size (k0_off6_inb k) (k0_off6_eq k) x _).trans (by rfl)
  have e1 : (Rect.unit (s := S256x256) (k0_off6 k) S8x256.size (k0_off6_inb k)).emb x 1 = x 1 := by
    refine Fin.ext ?_
    exact (embIdx (s := S256x256) S8x256.size (k0_off6_inb k) (k0_off6_eq k) x _).trans (by show 0 + (x 1).val = (x 1).val; omega)
  rw [epay2_apply (fun u => tileE i arg2 arg3 arg8 arg9 X2 X3 X8 X9 k u) x]
  dsimp only
  rw [tileE_eq i arg2 arg3 arg8 arg9 k h2 h3 h8 h9]
  unfold ES'
  refine congr (congrArg (eT i x0 x1 x8 x9) (Fin.ext ?_)) ?_
  · show 2 * k.val + (x 0).val / 4 = _ / 4; rw [e0]; omega
  · funext a
    match a with
    | ⟨0, _⟩ => refine Fin.ext ?_; show (x 0).val % 4 = _ % 4; rw [e0]; omega
    | ⟨1, _⟩ => exact e1.symm

omit h2 h3 h8 h9 in
/-- The columns tile `u` of trip `k` covers. -/
theorem mem_off3 (k : Fin k0_t2_loop.trips) (u : Fin 2) (y : S1x256x8192.Idx) (hl : 256 * k.val + 128 * u.val ≤ (y 2).val) (hu : (y 2).val < 256 * k.val + 128 * u.val + 128) :
    y ∈ (Rect.unit (s := S1x256x8192) (k0_off3 k (BitVec.ofNat 32 u.val)) S1x256x128.size (k0_off3_inb k u)).set := by
  have hy0 : (y 0).val < 1 := (y 0).isLt
  have hy1 : (y 1).val < 256 := (y 1).isLt
  rw [Rect.mem_set_unit, k0_off3_eq]
  intro a
  match a with
  | ⟨0, _⟩ => show 0 ≤ (y 0).val ∧ (y 0).val < 0 + 1; omega
  | ⟨1, _⟩ => show 0 ≤ (y 1).val ∧ (y 1).val < 0 + 256; omega
  | ⟨2, _⟩ => exact ⟨hl, hu⟩

omit h2 h3 h8 h9 in
/-- The exponent rows trip `k` covers. -/
theorem mem_off6 (k : Fin k0_t2_loop.trips) (y : S256x256.Idx) (hl : 8 * k.val ≤ (y 0).val) (hu : (y 0).val < 8 * k.val + 8) :
    y ∈ (Rect.unit (s := S256x256) (k0_off6 k) S8x256.size (k0_off6_inb k)).set := by
  have hy1 : (y 1).val < 256 := (y 1).isLt
  rw [Rect.mem_set_unit, k0_off6_eq]
  intro a
  match a with
  | ⟨0, _⟩ => exact ⟨hl, hu⟩
  | ⟨1, _⟩ => show 0 ≤ (y 1).val ∧ (y 1).val < 0 + 256; omega

omit h2 h3 h8 h9 in
/-- The pieces a trip of the tile loop stores to the codes. -/
theorem tripL2_q (k : Fin k0_t2_loop.trips) : (tripL_k0_t2 (F := F) 𝒱 c bd i arg2 harg2 arg3 harg3 arg4 harg4 arg5 harg5 arg6 harg6 arg7 harg7 arg8 harg8 arg9 harg9 arg10 harg10 a0 a1 X2 X3 X8 X9 k).1
    = [⟨Rect.unit (s := S1x256x8192) (k0_off3 k (BitVec.ofNat 32 (1 : Fin 2).val)) S1x256x128.size (k0_off3_inb k 1), tileQ i arg2 arg3 arg8 arg9 X2 X3 X8 X9 k 1⟩,
       ⟨Rect.unit (s := S1x256x8192) (k0_off3 k (BitVec.ofNat 32 (0 : Fin 2).val)) S1x256x128.size (k0_off3_inb k 0), tileQ i arg2 arg3 arg8 arg9 X2 X3 X8 X9 k 0⟩] := trip2_q_eq (F := F) 𝒱 c bd i arg2 harg2 arg3 harg3 arg4 harg4 arg5 harg5 arg6 harg6 arg7 harg7 arg8 harg8 arg9 harg9 arg10 harg10 a0 a1 X2 X3 X8 X9 k
omit h2 h3 h8 h9 in
/-- One more trip's pieces of the codes. -/
theorem pb2_step_q (k : Fin k0_t2_loop.trips) : (pb_k0_t2 (F := F) 𝒱 c bd i arg2 harg2 arg3 harg3 arg4 harg4 arg5 harg5 arg6 harg6 arg7 harg7 arg8 harg8 arg9 harg9 arg10 harg10 a0 a1 X2 X3 X8 X9 (k.val + 1)).1 = (tripL_k0_t2 (F := F) 𝒱 c bd i arg2 harg2 arg3 harg3 arg4 harg4 arg5 harg5 arg6 harg6 arg7 harg7 arg8 harg8 arg9 harg9 arg10 harg10 a0 a1 X2 X3 X8 X9 k).1 ++ (pb_k0_t2 (F := F) 𝒱 c bd i arg2 harg2 arg3 harg3 arg4 harg4 arg5 harg5 arg6 harg6 arg7 harg7 arg8 harg8 arg9 harg9 arg10 harg10 a0 a1 X2 X3 X8 X9 k.val).1 := by
  rw [pb_k0_t2_succ]
omit h2 h3 h8 h9 in
/-- One more trip: its two tiles of codes in front. -/
theorem pb2_succ_q (k : Fin k0_t2_loop.trips) : (pb_k0_t2 (F := F) 𝒱 c bd i arg2 harg2 arg3 harg3 arg4 harg4 arg5 harg5 arg6 harg6 arg7 harg7 arg8 harg8 arg9 harg9 arg10 harg10 a0 a1 X2 X3 X8 X9 (k.val + 1)).1
    = [⟨Rect.unit (s := S1x256x8192) (k0_off3 k (BitVec.ofNat 32 (1 : Fin 2).val)) S1x256x128.size (k0_off3_inb k 1), tileQ i arg2 arg3 arg8 arg9 X2 X3 X8 X9 k 1⟩,
       ⟨Rect.unit (s := S1x256x8192) (k0_off3 k (BitVec.ofNat 32 (0 : Fin 2).val)) S1x256x128.size (k0_off3_inb k 0), tileQ i arg2 arg3 arg8 arg9 X2 X3 X8 X9 k 0⟩]
      ++ (pb_k0_t2 (F := F) 𝒱 c bd i arg2 harg2 arg3 harg3 arg4 harg4 arg5 harg5 arg6 harg6 arg7 harg7 arg8 harg8 arg9 harg9 arg10 harg10 a0 a1 X2 X3 X8 X9 k.val).1 := by
  rw [pb2_step_q, tripL2_q]

omit h2 h3 h8 h9 in
/-- The pieces a trip of the tile loop stores to the exponents' scratch. -/
theorem tripL2_e (k : Fin k0_t2_loop.trips) : (tripL_k0_t2 (F := F) 𝒱 c bd i arg2 harg2 arg3 harg3 arg4 harg4 arg5 harg5 arg6 harg6 arg7 harg7 arg8 harg8 arg9 harg9 arg10 harg10 a0 a1 X2 X3 X8 X9 k).2
    = [⟨Rect.unit (s := S256x256) (k0_off6 k) S8x256.size (k0_off6_inb k), epay2 (tileE i arg2 arg3 arg8 arg9 X2 X3 X8 X9 k 0) (tileE i arg2 arg3 arg8 arg9 X2 X3 X8 X9 k 1)⟩] := trip2_e_eq (F := F) 𝒱 c bd i arg2 harg2 arg3 harg3 arg4 harg4 arg5 harg5 arg6 harg6 arg7 harg7 arg8 harg8 arg9 harg9 arg10 harg10 a0 a1 X2 X3 X8 X9 k
omit h2 h3 h8 h9 in
/-- One more trip's pieces of the exponents. -/
theorem pb2_step_e (k : Fin k0_t2_loop.trips) : (pb_k0_t2 (F := F) 𝒱 c bd i arg2 harg2 arg3 harg3 arg4 harg4 arg5 harg5 arg6 harg6 arg7 harg7 arg8 harg8 arg9 harg9 arg10 harg10 a0 a1 X2 X3 X8 X9 (k.val + 1)).2 = (tripL_k0_t2 (F := F) 𝒱 c bd i arg2 harg2 arg3 harg3 arg4 harg4 arg5 harg5 arg6 harg6 arg7 harg7 arg8 harg8 arg9 harg9 arg10 harg10 a0 a1 X2 X3 X8 X9 k).2 ++ (pb_k0_t2 (F := F) 𝒱 c bd i arg2 harg2 arg3 harg3 arg4 harg4 arg5 harg5 arg6 harg6 arg7 harg7 arg8 harg8 arg9 harg9 arg10 harg10 a0 a1 X2 X3 X8 X9 k.val).2 := by
  rw [pb_k0_t2_succ]
omit h2 h3 h8 h9 in
/-- One more trip: its exponent rows in front. -/
theorem pb2_succ_e (k : Fin k0_t2_loop.trips) : (pb_k0_t2 (F := F) 𝒱 c bd i arg2 harg2 arg3 harg3 arg4 harg4 arg5 harg5 arg6 harg6 arg7 harg7 arg8 harg8 arg9 harg9 arg10 harg10 a0 a1 X2 X3 X8 X9 (k.val + 1)).2
    = [⟨Rect.unit (s := S256x256) (k0_off6 k) S8x256.size (k0_off6_inb k), epay2 (tileE i arg2 arg3 arg8 arg9 X2 X3 X8 X9 k 0) (tileE i arg2 arg3 arg8 arg9 X2 X3 X8 X9 k 1)⟩]
      ++ (pb_k0_t2 (F := F) 𝒱 c bd i arg2 harg2 arg3 harg3 arg4 harg4 arg5 harg5 arg6 harg6 arg7 harg7 arg8 harg8 arg9 harg9 arg10 harg10 a0 a1 X2 X3 X8 X9 k.val).2 := by
  rw [pb2_step_e, tripL2_e]

/-- The second loop's pieces of codes agree with `QB'`. -/
theorem pb2_agree_q (k : ℕ) (hk : k ≤ k0_t2_loop.trips) : ∀ p ∈ (pb_k0_t2 (F := F) 𝒱 c bd i arg2 harg2 arg3 harg3 arg4 harg4 arg5 harg5 arg6 harg6 arg7 harg7 arg8 harg8 arg9 harg9 arg10 harg10 a0 a1 X2 X3 X8 X9 k).1, ∀ x : p.1.shape.Idx, p.2 x = QB' i x0 x1 x8 x9 (p.1.emb x) := by
  induction k with
  | zero => exact fun p hp => absurd hp List.not_mem_nil
  | succ k ih =>
    rw [pb2_succ_q 𝒱 c bd i arg2 harg2 arg3 harg3 arg4 harg4 arg5 harg5 arg6 harg6 arg7 harg7 arg8 harg8 arg9 harg9 arg10 harg10 a0 a1 ⟨k, hk⟩]
    exact agree_cons (piece_q i arg2 arg3 arg8 arg9 h2 h3 h8 h9 ⟨k, hk⟩ 1) (agree_cons (piece_q i arg2 arg3 arg8 arg9 h2 h3 h8 h9 ⟨k, hk⟩ 0) (ih (by omega)))

omit h2 h3 h8 h9 in
/-- The pieces of the trips before `k` cover columns below `256 k`. -/
theorem pb2_cover_q (k : ℕ) (hk : k ≤ k0_t2_loop.trips) (y : S1x256x8192.Idx) (hy : (y 2).val < 256 * k) : ∃ p ∈ (pb_k0_t2 (F := F) 𝒱 c bd i arg2 harg2 arg3 harg3 arg4 harg4 arg5 harg5 arg6 harg6 arg7 harg7 arg8 harg8 arg9 harg9 arg10 harg10 a0 a1 X2 X3 X8 X9 k).1, y ∈ p.1.set := by
  induction k with
  | zero => exact absurd hy (by omega)
  | succ k ih =>
    rw [pb2_succ_q 𝒱 c bd i arg2 harg2 arg3 harg3 arg4 harg4 arg5 harg5 arg6 harg6 arg7 harg7 arg8 harg8 arg9 harg9 arg10 harg10 a0 a1 ⟨k, hk⟩]
    by_cases h : (y 2).val < 256 * k
    · obtain ⟨p, hp, hy⟩ := ih (by omega) h
      exact ⟨p, List.mem_append_right _ hp, hy⟩
    · by_cases h' : (y 2).val < 256 * k + 128
      · exact ⟨_, List.mem_append_left _ (List.mem_cons_of_mem _ (List.mem_singleton_self _)), mem_off3 ⟨k, hk⟩ 0 y (by show 256 * k + 128 * 0 ≤ _; omega) (by show _ < 256 * k + 128 * 0 + 128; omega)⟩
      · exact ⟨_, List.mem_append_left _ List.mem_cons_self, mem_off3 ⟨k, hk⟩ 1 y (by show 256 * k + 128 * 1 ≤ _; omega) (by show _ < 256 * k + 128 * 1 + 128; omega)⟩

/-- The second loop's pieces of exponent rows agree with `ES'`. -/
theorem pb2_agree_e (k : ℕ) (hk : k ≤ k0_t2_loop.trips) : ∀ p ∈ (pb_k0_t2 (F := F) 𝒱 c bd i arg2 harg2 arg3 harg3 arg4 harg4 arg5 harg5 arg6 harg6 arg7 harg7 arg8 harg8 arg9 harg9 arg10 harg10 a0 a1 X2 X3 X8 X9 k).2, ∀ x : p.1.shape.Idx, p.2 x = ES' i x0 x1 x8 x9 (p.1.emb x) := by
  induction k with
  | zero => exact fun p hp => absurd hp List.not_mem_nil
  | succ k ih =>
    rw [pb2_succ_e 𝒱 c bd i arg2 harg2 arg3 harg3 arg4 harg4 arg5 harg5 arg6 harg6 arg7 harg7 arg8 harg8 arg9 harg9 arg10 harg10 a0 a1 ⟨k, hk⟩]
    exact agree_cons (piece_e i arg2 arg3 arg8 arg9 h2 h3 h8 h9 ⟨k, hk⟩) (ih (by omega))

omit h2 h3 h8 h9 in
/-- The pieces of the trips before `k` cover exponent rows below `8 k`. -/
theorem pb2_cover_e (k : ℕ) (hk : k ≤ k0_t2_loop.trips) (y : S256x256.Idx) (hy : (y 0).val < 8 * k) : ∃ p ∈ (pb_k0_t2 (F := F) 𝒱 c bd i arg2 harg2 arg3 harg3 arg4 harg4 arg5 harg5 arg6 harg6 arg7 harg7 arg8 harg8 arg9 harg9 arg10 harg10 a0 a1 X2 X3 X8 X9 k).2, y ∈ p.1.set := by
  induction k with
  | zero => exact absurd hy (by omega)
  | succ k ih =>
    rw [pb2_succ_e 𝒱 c bd i arg2 harg2 arg3 harg3 arg4 harg4 arg5 harg5 arg6 harg6 arg7 harg7 arg8 harg8 arg9 harg9 arg10 harg10 a0 a1 ⟨k, hk⟩]
    by_cases h : (y 0).val < 8 * k
    · obtain ⟨p, hp, hy⟩ := ih (by omega) h
      exact ⟨p, List.mem_append_right _ hp, hy⟩
    · exact ⟨_, List.mem_append_left _ (List.mem_singleton_self _), mem_off6 ⟨k, hk⟩ y (by show 8 * k ≤ _; omega) (by show _ < 8 * k + 8; omega)⟩

/-- What the second loop leaves in the codes block. -/
theorem loop2_read_q (G : BufTy.Contents (Elt F) arg6.view.ty) :
    arg6.view.read (Elt F) (arg6.view.writes (Elt F) G (pb_k0_t2 (F := F) 𝒱 c bd i arg2 harg2 arg3 harg3 arg4 harg4 arg5 harg5 arg6 harg6 arg7 harg7 arg8 harg8 arg9 harg9 arg10 harg10 a0 a1 X2 X3 X8 X9 k0_t2_loop.trips).1) = QB' i x0 x1 x8 x9 := by
  funext y
  have hy : (y 2).val < 8192 := (y 2).isLt
  exact View.read_writes_apply_of_pieces arg6.view G _ _ (pb2_agree_q 𝒱 c bd i arg2 harg2 arg3 harg3 arg4 harg4 arg5 harg5 arg6 harg6 arg7 harg7 arg8 harg8 arg9 harg9 arg10 harg10 a0 a1 h2 h3 h8 h9 _ (le_refl _)) y (pb2_cover_q 𝒱 c bd i arg2 harg2 arg3 harg3 arg4 harg4 arg5 harg5 arg6 harg6 arg7 harg7 arg8 harg8 arg9 harg9 arg10 harg10 a0 a1 _ (le_refl _) y (by rw [trips2]; omega))

/-- What it leaves in the exponent rows. -/
theorem loop2_read_e (G : BufTy.Contents (Elt F) arg10.view.ty) :
    arg10.view.read (Elt F) (arg10.view.writes (Elt F) G (pb_k0_t2 (F := F) 𝒱 c bd i arg2 harg2 arg3 harg3 arg4 harg4 arg5 harg5 arg6 harg6 arg7 harg7 arg8 harg8 arg9 harg9 arg10 harg10 a0 a1 X2 X3 X8 X9 k0_t2_loop.trips).2) = ES' i x0 x1 x8 x9 := by
  funext y
  have hy : (y 0).val < 256 := (y 0).isLt
  exact View.read_writes_apply_of_pieces arg10.view G _ _ (pb2_agree_e 𝒱 c bd i arg2 harg2 arg3 harg3 arg4 harg4 arg5 harg5 arg6 harg6 arg7 harg7 arg8 harg8 arg9 harg9 arg10 harg10 a0 a1 h2 h3 h8 h9 _ (le_refl _)) y (pb2_cover_e 𝒱 c bd i arg2 harg2 arg3 harg3 arg4 harg4 arg5 harg5 arg6 harg6 arg7 harg7 arg8 harg8 arg9 harg9 arg10 harg10 a0 a1 _ (le_refl _) y (by rw [trips2]; omega))

end All

end Cert.Kernel.Hand

end
-- ==== Proof.BitsRun.lean ====
/- (The program before idealization; the same proof as in `KernelRun`.) The kernel body's triple, with what it leaves in each buffer as a function of the point's input blocks. -/
module

public import proofs.«01_k».proof.Proof.BitsLoops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The codes of point `i`'s block, of its four input blocks. -/
def QB (i : grid0.Coords) (x0 : Vec F S2x112x64 .f32) (x1 : Vec F S1x256x8192 .fp8e4m3) (x2 : Vec F S1x16x8192 .bf16) (x3 : Vec F S1x256x16 .bf16) : Vec F S1x256x8192 .fp8e4m3 :=
  QB' i x0 x1 (AT x2) (k0_pay2 x3)
/-- The exponents of point `i`'s block, of its four input blocks. -/
def EB (i : grid0.Coords) (x0 : Vec F S2x112x64 .f32) (x1 : Vec F S1x256x8192 .fp8e4m3) (x2 : Vec F S1x16x8192 .bf16) (x3 : Vec F S1x256x16 .bf16) : Vec F S1x256x256 .i8 :=
  k0_pay5 (ES' i x0 x1 (AT x2) (k0_pay2 x3))

/-- Reading a whole buffer back after one store over all of it. -/
theorem read_whole_piece {κ : Kind} {sp : Space} {S : Shape} {e : EltTy} (v : View sig κ sp S e) (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  funext y
  refine View.read_writes_apply_of_pieces v f w _ (agree_cons (fun x => ?_) fun p hp => absurd hp List.not_mem_nil) y ⟨_, List.mem_singleton_self _, View.mem_set_unit_zero h inb y⟩
  subst h
  refine congrArg w (funext fun a => Fin.ext ?_)
  rw [embIdx S.size inb rfl x a]
  show (x a).val = 0 + (x a).val
  omega

/-- Reading a whole buffer by a load of all of it. -/
theorem readAt_whole {κ : Kind} {sp : Space} {S : Shape} {e : EltTy} (v : View sig κ sp S e) (f : v.ty.Contents (Elt F)) {off : Fin S.rank → ℕ} (h : off = fun _ => 0)
    (inb : ∀ a, off a + S.size a ≤ S.size a) : v.readAt (Elt F) (Rect.unit off S.size inb).toLoadRect f = v.read (Elt F) f := by
  funext x
  rw [View.readAt_apply]
  subst h
  refine congrArg _ (funext fun a => Fin.ext ?_)
  rw [ldIdx S.size inb rfl x a]
  show 0 + (x a).val = (x a).val
  omega

/-- The offset of a whole-buffer access is zero. -/
theorem zero_off_16x256 : (![0, 0] : Fin S16x256.rank → ℕ) = fun _ => 0 := by decide
/-- The offset of a whole-buffer access is zero. -/
theorem zero_off_256x256 : (![0, 0] : Fin S256x256.rank → ℕ) = fun _ => 0 := by decide
/-- The offset of a whole-buffer access is zero. -/
theorem zero_off_1x256x256 : (![0, 0, 0] : Fin S1x256x256.rank → ℕ) = fun _ => 0 := by decide
/-- The offset of a whole-buffer access is zero. -/
theorem zero_off_1x256x16 : (![0, 0, 0] : Fin S1x256x16.rank → ℕ) = fun _ => 0 := by decide

set_option maxHeartbeats 4000000 in
/-- The body at a point that fills the transposed A. -/
theorem runA (c : Dev nD) (i : grid0.Coords) (arg2 : Memref sig .tc .smem S2x112x64 .f32) (harg2 : arg2.IsWhole) (arg3 : Memref sig .tc .vmem S1x256x8192 .fp8e4m3) (harg3 : arg3.IsWhole) (arg4 : Memref sig .tc .vmem S1x16x8192 .bf16) (harg4 : arg4.IsWhole) (arg5 : Memref sig .tc .vmem S1x256x16 .bf16) (harg5 : arg5.IsWhole) (arg6 : Memref sig .tc .vmem S1x256x8192 .fp8e4m3) (harg6 : arg6.IsWhole) (arg7 : Memref sig .tc .vmem S1x256x256 .i8) (harg7 : arg7.IsWhole) (arg8 : Memref sig .tc .vmem S8192x16 .bf16) (harg8 : arg8.IsWhole) (arg9 : Memref sig .tc .vmem S16x256 .bf16) (harg9 : arg9.IsWhole) (arg10 : Memref sig .tc .vmem S256x256 .i32) (harg10 : arg10.IsWhole) (hc0 : k0_cond1 i = 1#1)
    (x0 : Vec F S2x112x64 .f32) (x1 : Vec F S1x256x8192 .fp8e4m3) (x2 : Vec F S1x16x8192 .bf16) (x3 : Vec F S1x256x16 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (QB i x0 x1 x2 x3) ∗ owns (c : Thread nD τ) arg7 fullShare (EB i x0 x1 x2 x3) ∗ owns (c : Thread nD τ) arg8 fullShare (AT x2) ∗ (∃ d, owns (c : Thread nD τ) arg9 fullShare d) ∗ (∃ d, owns (c : Thread nD τ) arg10 fullShare d)) -∗ K ⟨⟩))
      ⊢ wp frame (wpE (defs₀ (F := F)) Variants.none c none) E (cc0_lora_merge_requant i arg2 harg2 arg3 harg3 arg4 harg4 arg5 harg5 arg6 harg6 arg7 harg7 arg8 harg8 arg9 harg9 arg10 harg10) K := by
  simp only [cc0_lora_merge_requant_eq_skeleton]; unfold cc0_lora_merge_requant_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  have h9 : ∀ (fs1 : BufTy.Contents (Elt F) arg9.view.ty), arg9.view.read (Elt F) (arg9.view.writes (Elt F) fs1 [⟨Rect.unit (s := S16x256) ![0, 0] S16x256.size inb_S16x256_S16x256_0_0, k0_pay2 (View.readAt (Elt F) arg5.view (Rect.unit (s := S1x256x16) ![0, 0, 0] S1x256x16.size inb_S1x256x16_S1x256x16_0_0_0).toLoadRect (harg5.unread x3))⟩]) = k0_pay2 x3 := by
    intro fs1
    rw [read_whole_piece arg9.view fs1 zero_off_16x256, readAt_whole arg5.view _ zero_off_1x256x16, harg5.read_unread]
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact loop2_read_q Variants.none c none i arg2 harg2 arg3 harg3 arg4 harg4 arg5 harg5 arg6 harg6 arg7 harg7 arg8 harg8 arg9 harg9 arg10 harg10 _ _ (harg2.read_unread _) (harg3.read_unread _) (loop1_read Variants.none c none i arg2 harg2 arg3 harg3 arg4 harg4 arg5 harg5 arg6 harg6 arg7 harg7 arg8 harg8 arg9 harg9 arg10 harg10 hc0 _ x2 (harg4.read_unread _) _) (h9 _) f4
  isplitl [H5]
  · iexists _; isplitr; swap; · iexact H5
    ipureintro
    refine (read_whole_piece arg7.view f5 zero_off_1x256x256 inb_S1x256x256_S1x256x256_0_0_0 _).trans ?_
    exact congrArg (k0_pay5 (F := F)) ((readAt_whole arg10.view _ zero_off_256x256 inb_S256x256_S256x256_0_0).trans (loop2_read_e Variants.none c none i arg2 harg2 arg3 harg3 arg4 harg4 arg5 harg5 arg6 harg6 arg7 harg7 arg8 harg8 arg9 harg9 arg10 harg10 _ _ (harg2.read_unread _) (harg3.read_unread _) (loop1_read Variants.none c none i arg2 harg2 arg3 harg3 arg4 harg4 arg5 harg5 arg6 harg6 arg7 harg7 arg8 harg8 arg9 harg9 arg10 harg10 hc0 _ x2 (harg4.read_unread _) _) (h9 _) _))
  isplitl [HS0]
  · iexists _; isplitr; swap; · iexact HS0
    ipureintro
    exact (loop1_read Variants.none c none i arg2 harg2 arg3 harg3 arg4 harg4 arg5 harg5 arg6 harg6 arg7 harg7 arg8 harg8 arg9 harg9 arg10 harg10 hc0 _ x2 (harg4.read_unread _) _)
  isplitl [HS1]
  · iexists _, _; isplitr; swap; · iexact HS1
    ipureintro; rfl
  iexists _, _; isplitr; swap; · iexact HS2
  ipureintro; rfl

set_option maxHeartbeats 4000000 in
/-- The body at a point that finds the transposed A of its block. -/
theorem runB (c : Dev nD) (i : grid0.Coords) (arg2 : Memref sig .tc .smem S2x112x64 .f32) (harg2 : arg2.IsWhole) (arg3 : Memref sig .tc .vmem S1x256x8192 .fp8e4m3) (harg3 : arg3.IsWhole) (arg4 : Memref sig .tc .vmem S1x16x8192 .bf16) (harg4 : arg4.IsWhole) (arg5 : Memref sig .tc .vmem S1x256x16 .bf16) (harg5 : arg5.IsWhole) (arg6 : Memref sig .tc .vmem S1x256x8192 .fp8e4m3) (harg6 : arg6.IsWhole) (arg7 : Memref sig .tc .vmem S1x256x256 .i8) (harg7 : arg7.IsWhole) (arg8 : Memref sig .tc .vmem S8192x16 .bf16) (harg8 : arg8.IsWhole) (arg9 : Memref sig .tc .vmem S16x256 .bf16) (harg9 : arg9.IsWhole) (arg10 : Memref sig .tc .vmem S256x256 .i32) (harg10 : arg10.IsWhole) (hc0 : ¬ k0_cond1 i = 1#1)
    (x0 : Vec F S2x112x64 .f32) (x1 : Vec F S1x256x8192 .fp8e4m3) (x2 : Vec F S1x16x8192 .bf16) (x3 : Vec F S1x256x16 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare (AT x2) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (QB i x0 x1 x2 x3) ∗ owns (c : Thread nD τ) arg7 fullShare (EB i x0 x1 x2 x3) ∗ owns (c : Thread nD τ) arg8 fullShare (AT x2) ∗ (∃ d, owns (c : Thread nD τ) arg9 fullShare d) ∗ (∃ d, owns (c : Thread nD τ) arg10 fullShare d)) -∗ K ⟨⟩))
      ⊢ wp frame (wpE (defs₀ (F := F)) Variants.none c none) E (cc0_lora_merge_requant i arg2 harg2 arg3 harg3 arg4 harg4 arg5 harg5 arg6 harg6 arg7 harg7 arg8 harg8 arg9 harg9 arg10 harg10) K := by
  simp only [cc0_lora_merge_requant_eq_skeleton]; unfold cc0_lora_merge_requant_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg8.eq_unread hfs0
  have h9 : ∀ (fs1 : BufTy.Contents (Elt F) arg9.view.ty), arg9.view.read (Elt F) (arg9.view.writes (Elt F) fs1 [⟨Rect.unit (s := S16x256) ![0, 0] S16x256.size inb_S16x256_S16x256_0_0, k0_pay2 (View.readAt (Elt F) arg5.view (Rect.unit (s := S1x256x16) ![0, 0, 0] S1x256x16.size inb_S1x256x16_S1x256x16_0_0_0).toLoadRect (harg5.unread x3))⟩]) = k0_pay2 x3 := by
    intro fs1
    rw [read_whole_piece arg9.view fs1 zero_off_16x256, readAt_whole arg5.view _ zero_off_1x256x16, harg5.read_unread]
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact loop2_read_q Variants.none c none i arg2 harg2 arg3 harg3 arg4 harg4 arg5 harg5 arg6 harg6 arg7 harg7 arg8 harg8 arg9 harg9 arg10 harg10 _ _ (harg2.read_unread _) (harg3.read_unread _) (harg8.read_unread _) (h9 _) f4
  isplitl [H5]
  · iexists _; isplitr; swap; · iexact H5
    ipureintro
    refine (read_whole_piece arg7.view f5 zero_off_1x256x256 inb_S1x256x256_S1x256x256_0_0_0 _).trans ?_
    exact congrArg (k0_pay5 (F := F)) ((readAt_whole arg10.view _ zero_off_256x256 inb_S256x256_S256x256_0_0).trans (loop2_read_e Variants.none c none i arg2 harg2 arg3 harg3 arg4 harg4 arg5 harg5 arg6 harg6 arg7 harg7 arg8 harg8 arg9 harg9 arg10 harg10 _ _ (harg2.read_unread _) (harg3.read_unread _) (harg8.read_unread _) (h9 _) _))
  isplitl [HS0]
  · iexists _; isplitr; swap; · iexact HS0
    ipureintro
    exact (harg8.read_unread _)
  isplitl [HS1]
  · iexists _, _; isplitr; swap; · iexact HS1
    ipureintro; rfl
  iexists _, _; isplitr; swap; · iexact HS2
  ipureintro; rfl

end Cert.Kernel.Hand

end
-- ==== Proof.BitsFrame.lean ====
/- (The program before idealization; the same proof as in `KernelFrame`.) The kernel's run: what its two result arrays end holding, and that its arguments end unchanged. -/
module

public import proofs.«01_k».proof.Proof.BitsRun
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The transposed A is filled at the first point of each batch. -/
theorem hcond0_0 : ∀ t : Fin cfg0.N, k0_cond1 (grid0.coords t) = 1#1 ↔ t.val % 56 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [k0_cond1, e0, e1]
    word_cmp
   : ∀ t : Fin grid0.N, k0_cond1 (grid0.coords t) = 1#1 ↔ t.val % 56 = 0)

abbrev ms0_0 (t : Fin cfg0.N) : Memref sig .tc .smem S2x112x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x16 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x256 .i8 := win0_5.stage (cfg0.slots t 5)
abbrev hs0_5 (t : Fin cfg0.N) : (ms0_5 t).IsWhole := hstage0_5 ((cfg0.slots t 5).cast nbuf0_5)
abbrev scM0_0 : Memref sig .tc .vmem S8192x16 .bf16 := Memref.whole cc0_scratch0
abbrev scM0_1 : Memref sig .tc .vmem S16x256 .bf16 := Memref.whole cc0_scratch1
abbrev scM0_2 : Memref sig .tc .vmem S256x256 .i32 := Memref.whole cc0_scratch2

/-- The region's invariant with the scratch operands as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The blocks of the input windows, at an index -/

/-- Window 2's block index: the batch. -/
theorem idx0_2 : ∀ t : Fin cfg0.N, win0_2.index t (0 : Fin 3) = t.val / 56 ∧ win0_2.index t (1 : Fin 3) = 0 ∧ win0_2.index t (2 : Fin 3) = 0 :=
  (by decide +kernel : ∀ t : Fin grid0.N, _)

/-- Two points of one batch read the same block of A. -/
theorem iblk2_congr (c : Dev nD) (t t' : Fin cfg0.N) (h : t.val / 56 = t'.val / 56) :
    (iblk m c 2 t : Vec F S1x16x8192 .bf16) = iblk m c 2 t' := by
  obtain ⟨e0, e1, e2⟩ := idx0_2 t
  obtain ⟨f0, f1, f2⟩ := idx0_2 t'
  funext j
  show V m c main_arg2 (((cfg0.win 2).blk t).view.emb j) = V m c main_arg2 (((cfg0.win 2).blk t').view.emb j)
  refine congrArg (V m c main_arg2) (funext fun a => Fin.ext ?_)
  match a with
  | ⟨0, _⟩ => show win0_2.index t (0 : Fin 3) * 1 + 1 * (j 0).val = win0_2.index t' (0 : Fin 3) * 1 + 1 * (j 0).val; omega
  | ⟨1, _⟩ => show win0_2.index t (1 : Fin 3) * 16 + 1 * (j 1).val = win0_2.index t' (1 : Fin 3) * 16 + 1 * (j 1).val; omega
  | ⟨2, _⟩ => show win0_2.index t (2 : Fin 3) * 8192 + 1 * (j 2).val = win0_2.index t' (2 : Fin 3) * 8192 + 1 * (j 2).val; omega

/-! ## The region's invariant -/

/-- What the transposed-A scratch holds after point `n`. -/
def scA (c : Dev nD) (n : ℕ) (hn : n < cfg0.N) : Vec F S8192x16 .bf16 := AT (iblk m c 2 ⟨n, hn⟩)

/-- Before the first point every scratch holds anything; afterwards the transposed A holds this batch's. -/
def PhiS (c : Dev nD) : (n : ℕ) → n ≤ cfg0.N → sProp 𝕄
  | 0, _ => Pipeline.ΦA spec0 c
  | n + 1, hn => iprop(iprop(owns (c : Thread nD τ) scM0_0 fullShare (scA m c n hn) ∗ (∃ d, owns (c : Thread nD τ) scM0_1 fullShare d) ∗ (∃ d, owns (c : Thread nD τ) scM0_2 fullShare d)) ∗ (∃ r, prngReg c r))

/-- Before the first point the scratch buffers are as the region finds them. -/
theorem PhiS_zero (c : Dev nD) (n : ℕ) (h : n ≤ cfg0.N) (hz : n = 0) : PhiS m c n h = Pipeline.ΦA spec0 c := by
  subst hz; rfl

/-- After a point, what the scratch buffers hold. -/
theorem PhiS_succ (c : Dev nD) (n : ℕ) (hn : n < cfg0.N) :
    PhiS m c (n + 1) hn = iprop(iprop(owns (c : Thread nD τ) scM0_0 fullShare (scA m c n hn) ∗ (∃ d, owns (c : Thread nD τ) scM0_1 fullShare d) ∗ (∃ d, owns (c : Thread nD τ) scM0_2 fullShare d)) ∗ (∃ r, prngReg c r)) := rfl

/-- At any later point, what the scratch buffers hold. -/
theorem PhiS_pos (c : Dev nD) (n : ℕ) (h : n ≤ cfg0.N) (hz : n ≠ 0) :
    PhiS m c n h = iprop(iprop(owns (c : Thread nD τ) scM0_0 fullShare (scA m c (n - 1) (by omega)) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- At a point that does not fill it, the transposed A already holds the point's own batch. -/
theorem scA_prev (c : Dev nD) (t : Fin cfg0.N) (h0 : ¬t.val % 56 = 0) (h : t.val - 1 < cfg0.N) :
    scA m c (t.val - 1) h = AT (iblk m c 2 t) :=
  congrArg AT (iblk2_congr m c _ _ (by show (t.val - 1) / 56 = t.val / 56; omega))

/-- The proof data: each input's buffer at its block, the outputs' at `QB` and `EB` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => QB (grid0.coords t) (iblk m c 0 t) (iblk m c 1 t) (iblk m c 2 t) (iblk m c 3 t)
    | ⟨5, _⟩ => EB (grid0.coords t) (iblk m c 0 t) (iblk m c 1 t) (iblk m c 2 t) (iblk m c 3 t)
  Φ t := PhiS m c t.val (Nat.le_of_lt_succ t.isLt)
  q _ := fullShare
  owed _ := 0

/-- The arrays as the region finds them. -/
theorem A_eq (c : Dev nD) (w : Fin cfg0.W) : (dats m 0 c).A w = V m c (Pipeline.arrRef spec0 w) := by
  dsimp only [dats]

/-- The scratch state before point `t`, by its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The scales' buffer is left as staged. -/
theorem after0_0 (c : Dev nD) (t : Fin cfg0.N) : (dats m 0 c).after 0 t = iblk m c 0 t := by dsimp only [dats]
/-- The codes' buffer is left as staged. -/
theorem after0_1 (c : Dev nD) (t : Fin cfg0.N) : (dats m 0 c).after 1 t = iblk m c 1 t := by dsimp only [dats]
/-- A's buffer is left as staged. -/
theorem after0_2 (c : Dev nD) (t : Fin cfg0.N) : (dats m 0 c).after 2 t = iblk m c 2 t := by dsimp only [dats]
/-- B's buffer is left as staged. -/
theorem after0_3 (c : Dev nD) (t : Fin cfg0.N) : (dats m 0 c).after 3 t = iblk m c 3 t := by dsimp only [dats]
/-- After a point, the output buffer of codes. -/
theorem after0_4 (c : Dev nD) (t : Fin cfg0.N) : (dats m 0 c).after 4 t = QB (grid0.coords t) (iblk m c 0 t) (iblk m c 1 t) (iblk m c 2 t) (iblk m c 3 t) := by dsimp only [dats]
/-- After a point, the output buffer of exponent bytes. -/
theorem after0_5 (c : Dev nD) (t : Fin cfg0.N) : (dats m 0 c).after 5 t = EB (grid0.coords t) (iblk m c 0 t) (iblk m c 1 t) (iblk m c 2 t) (iblk m c 3 t) := by dsimp only [dats]

/-- Before a point, the scales' buffer holds the array. -/
theorem before0_0 (c : Dev nD) (t : Fin cfg0.N) (d) : (dats m 0 c).before 0 t d = iblk m c 0 t :=
  before0_0_of m (dats m 0 c) (A_eq m c 0) (after0_0 m c) t d
/-- Before a point, the codes' buffer holds its block. -/
theorem before0_1 (c : Dev nD) (t : Fin cfg0.N) (d) : (dats m 0 c).before 1 t d = iblk m c 1 t :=
  before0_1_of m (dats m 0 c) (A_eq m c 1) (after0_1 m c) t d
/-- Before a point, A's buffer holds its block. -/
theorem before0_2 (c : Dev nD) (t : Fin cfg0.N) (d) : (dats m 0 c).before 2 t d = iblk m c 2 t :=
  before0_2_of m (dats m 0 c) (A_eq m c 2) (after0_2 m c) t d
/-- Before a point, B's buffer holds its block. -/
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  rw [show scA m c t.val t.isLt = AT (iblk m c 2 t) from rfl]
  have hN : t.val < 112 := lt_of_lt_of_eq t.isLt (show cfg0.N = 112 from N_0)
  by_cases h0 : t.val % 56 = 0
  · by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ ((hcond0_0 t).mpr h0) (iblk m c 0 t) (iblk m c 1 t) (iblk m c 2 t) (iblk m c 3 t) (E := Set.univ))
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ ((hcond0_0 t).mpr h0) (iblk m c 0 t) (iblk m c 1 t) (iblk m c 2 t) (iblk m c 3 t) (E := Set.univ))
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases hz : t.val = 0
    · exfalso; omega
    · rw [PhiS_castSucc m c t, PhiS_pos m c _ _ hz, scA_prev m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ _ _ (fun h => h0 ((hcond0_0 t).mp h)) (iblk m c 0 t) (iblk m c 1 t) (iblk m c 2 t) (iblk m c 3 t) (E := Set.univ))
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5

/-- The program the point runs is the kernel body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch state the region enters with. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- Past the first point, the scratch contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The scratch state the region leaves with. -/
theorem hout (c : Dev nD) : (dats m 0 c).Φ (Fin.last cfg0.N) ⊢ Pipeline.ΦA spec0 c :=
  Phi_out m c _ (by rw [Fin.val_last]; have : cfg0.N = 112 := N_0; omega)

set_option backward.isDefEq.respectTransparency.types false in
/-- The launch: every array at what its windows' write-backs leave, every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, each array holding what the points wrote. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KernelTrips.lean ====
/- What one trip of each of the kernel's two counted loops stores, as explicit pieces, and what the pieces of all
   the trips amount to: each loop's pieces agree with one function of the buffer's index and cover the buffer. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The payloads of one block of 128 columns -/

/-- The quantized codes of one 256 x 128 tile: of its codes `w`, its two scales `s0`, `s1` (one per 128 rows), the
    transposed B block `b` and the tile's 128 rows `a` of the transposed, doubled A. -/
def qpay (w : Vec F S1x256x128 .fp8e4m3) (s0 s1 : Elt F .f32) (b : Vec F S16x256 .bf16) (a : Vec F S128x16 .bf16) : FVec F S1x256x128 .fp8e4m3 :=
  k0_pay12 (k0_pay6 k0_pay3 w s0 s1 b a) (k0_pay7 k0_pay3 w s0 s1 b a) (k0_pay10 (k0_pay7 k0_pay3 w s0 s1 b a) k0_pay8 k0_pay9)

/-- The four exponent rows of the same tile. -/
def epay (w : Vec F S1x256x128 .fp8e4m3) (s0 s1 : Elt F .f32) (b : Vec F S16x256 .bf16) (a : Vec F S128x16 .bf16) : IVec S4x256 32 :=
  k0_pay13 (k0_pay7 k0_pay3 w s0 s1 b a) (k0_pay10 (k0_pay7 k0_pay3 w s0 s1 b a) k0_pay8 k0_pay9)

/-- The exponent rows of a trip's two tiles, one above the other. -/
def epay2 (e0 e1 : IVec S4x256 32) : IVec S8x256 32 :=
  k0_pay4 (concatenate S8x256 0 [⟨S4x256, e0⟩, ⟨S4x256, e1⟩] concatenates_S4x256_S4x256_S8x256_d0)

/-! ## The trips' pieces -/

section Trips

variable (𝒱 : Variants) (c : Dev nD) (bd : Option 𝒱.V) (i : grid0.Coords) (arg2 : Memref sig .tc .smem S2x112x64 .f32) (harg2 : arg2.IsWhole) (arg3 : Memref sig .tc .vmem S1x256x8192 .fp8e4m3) (harg3 : arg3.IsWhole) (arg4 : Memref sig .tc .vmem S1x16x8192 .bf16) (harg4 : arg4.IsWhole) (arg5 : Memref sig .tc .vmem S1x256x16 .bf16) (harg5 : arg5.IsWhole) (arg6 : Memref sig .tc .vmem S1x256x8192 .fp8e4m3) (harg6 : arg6.IsWhole) (arg7 : Memref sig .tc .vmem S1x256x256 .i8) (harg7 : arg7.IsWhole) (arg8 : Memref sig .tc .vmem S8192x16 .bf16) (harg8 : arg8.IsWhole) (arg9 : Memref sig .tc .vmem S16x256 .bf16) (harg9 : arg9.IsWhole) (arg10 : Memref sig .tc .vmem S256x256 .i32) (harg10 : arg10.IsWhole)

/-- The first loop's trip stores one tile of the transposed, doubled A. -/
theorem trip1_eq (h1 : k0_cond1 i = 1#1) (X4 : BufTy.Contents (Elt F) arg4.view.ty) (k : Fin k0_t1_loop.trips) :
    (trip_k0_t1 (F := F) 𝒱 c bd i arg2 harg2 arg3 harg3 arg4 harg4 arg5 harg5 arg6 harg6 arg7 harg7 arg8 harg8 arg9 harg9 arg10 harg10 h1 X4 k).1
      = [⟨Rect.unit (s := S8192x16) (k0_off2 k) S128x16.size (k0_off2_inb i k h1),
          k0_pay1 (View.readAt (Elt F) arg4.view (Rect.unit (s := S1x16x8192) (k0_off1 k) S1x16x128.size (k0_off1_inb i k h1)).toLoadRect X4)⟩] := by
  unfold trip_k0_t1
  rfl

/-- Tile `u` of trip `k`: the codes read from the block's columns. -/
abbrev tileW (X3 : BufTy.Contents (Elt F) arg3.view.ty) (k : Fin k0_t2_loop.trips) (u : Fin 2) : Vec F S1x256x128 .fp8e4m3 :=
  View.readAt (Elt F) arg3.view (Rect.unit (s := S1x256x8192) (k0_off3 k (BitVec.ofNat 32 u.val)) S1x256x128.size (k0_off3_inb k u)).toLoadRect X3
/-- Tile `u` of trip `k`: its scale for rows `128 * v .. 128 * v + 127`. -/
abbrev tileS (X2 : BufTy.Contents (Elt F) arg2.view.ty) (k : Fin k0_t2_loop.trips) (v u : Fin 2) : Elt F .f32 :=
  View.readAt (Elt F) arg2.view (Rect.unit (s := S2x112x64) (k0_off4 i k (BitVec.ofNat 32 v.val) (BitVec.ofNat 32 u.val)) S1x1x1.size (k0_off4_inb i k v u)).toLoadRect X2
    (Shape.Idx.first (s := S1x1x1) (by decide))
/-- Tile `u` of trip `k`: its rows of the transposed A. -/
abbrev tileA (X8 : BufTy.Contents (Elt F) arg8.view.ty) (k : Fin k0_t2_loop.trips) (u : Fin 2) : Vec F S128x16 .bf16 :=
  View.readAt (Elt F) arg8.view (Rect.unit (s := S8192x16) (k0_off5 k (BitVec.ofNat 32 u.val)) S128x16.size (k0_off5_inb k u)).toLoadRect X8
/-- The transposed B block. -/
abbrev tileB (X9 : BufTy.Contents (Elt F) arg9.view.ty) : Vec F S16x256 .bf16 :=
  View.readAt (Elt F) arg9.view (Rect.unit (s := S16x256) ![0, 0] S16x256.size inb_S16x256_S16x256_0_0).toLoadRect X9

/-- Tile `u`'s codes and exponents, of what the buffers hold. -/
abbrev tileQ (X2 : BufTy.Contents (Elt F) arg2.view.ty) (X3 : BufTy.Contents (Elt F) arg3.view.ty) (X8 : BufTy.Contents (Elt F) arg8.view.ty) (X9 : BufTy.Contents (Elt F) arg9.view.ty) (k : Fin k0_t2_loop.trips) (u : Fin 2) : FVec F S1x256x128 .fp8e4m3 :=
  qpay (tileW arg3 X3 k u) (tileS i arg2 X2 k 0 u) (tileS i arg2 X2 k 1 u) (tileB arg9 X9) (tileA arg8 X8 k u)
abbrev tileE (X2 : BufTy.Contents (Elt F) arg2.view.ty) (X3 : BufTy.Contents (Elt F) arg3.view.ty) (X8 : BufTy.Contents (Elt F) arg8.view.ty) (X9 : BufTy.Contents (Elt F) arg9.view.ty) (k : Fin k0_t2_loop.trips) (u : Fin 2) : IVec S4x256 32 :=
  epay (tileW arg3 X3 k u) (tileS i arg2 X2 k 0 u) (tileS i arg2 X2 k 1 u) (tileB arg9 X9) (tileA arg8 X8 k u)

set_option maxHeartbeats 2000000 in
/-- The second loop's trip stores the codes of its two tiles. -/
theorem trip2_q_eq (a0 a1 : BitVec 32) (X2 : BufTy.Contents (Elt F) arg2.view.ty) (X3 : BufTy.Contents (Elt F) arg3.view.ty) (X8 : BufTy.Contents (Elt F) arg8.view.ty) (X9 : BufTy.Contents (Elt F) arg9.view.ty) (k : Fin k0_t2_loop.trips) :
    (trip_k0_t2 (F := F) 𝒱 c bd i arg2 harg2 arg3 harg3 arg4 harg4 arg5 harg5 arg6 harg6 arg7 harg7 arg8 harg8 arg9 harg9 arg10 harg10 a0 a1 X2 X3 X8 X9 k).1
      = [⟨Rect.unit (s := S1x256x8192) (k0_off3 k (BitVec.ofNat 32 (1 : Fin 2).val)) S1x256x128.size (k0_off3_inb k 1), tileQ i arg2 arg3 arg8 arg9 X2 X3 X8 X9 k 1⟩,
         ⟨Rect.unit (s := S1x256x8192) (k0_off3 k (BitVec.ofNat 32 (0 : Fin 2).val)) S1x256x128.size (k0_off3_inb k 0), tileQ i arg2 arg3 arg8 arg9 X2 X3 X8 X9 k 0⟩] := by
  unfold trip_k0_t2
  rfl

set_option maxHeartbeats 2000000 in
/-- ... and their exponent rows. -/
theorem trip2_e_eq (a0 a1 : BitVec 32) (X2 : BufTy.Contents (Elt F) arg2.view.ty) (X3 : BufTy.Contents (Elt F) arg3.view.ty) (X8 : BufTy.Contents (Elt F) arg8.view.ty) (X9 : BufTy.Contents (Elt F) arg9.view.ty) (k : Fin k0_t2_loop.trips) :
    (trip_k0_t2 (F := F) 𝒱 c bd i arg2 harg2 arg3 harg3 arg4 harg4 arg5 harg5 arg6 harg6 arg7 harg7 arg8 harg8 arg9 harg9 arg10 harg10 a0 a1 X2 X3 X8 X9 k).2.1
      = [⟨Rect.unit (s := S256x256) (k0_off6 k) S8x256.size (k0_off6_inb k), epay2 (tileE i arg2 arg3 arg8 arg9 X2 X3 X8 X9 k 0) (tileE i arg2 arg3 arg8 arg9 X2 X3 X8 X9 k 1)⟩] := by
  unfold trip_k0_t2
  rfl

end Trips

end Cert.KernelIdeal.Hand

end
-- ==== Proof.KernelLoops.lean ====
/- What the kernel's two counted loops leave in the buffers they fill, as functions of the point's input blocks. -/
module

public import proofs.«01_k».proof.Proof.KernelTrips
public import Idealize.ShloMosaic.Lib.ValueIdxCore
public import Idealize.ShloMosaic.Lib.Pipeline.Value
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-- The transposing loop's number of trips. -/
theorem trips1 : k0_t1_loop.trips = 64 := by decide +kernel
/-- The tile loop's number of trips. -/
theorem trips2 : k0_t2_loop.trips = 32 := by decide +kernel

/-- A unit-stride rectangle's read index, its offsets in closed form. -/
theorem ldIdx {s : Shape} {off off' : Fin s.rank → ℕ} (size : Fin s.rank → ℕ) (inb : ∀ a, off a + size a ≤ s.size a) (h : off = off') (x : (Rect.unit off size inb).shape.Idx) (a : Fin s.rank) :
    ((Rect.unit off size inb).toLoadRect.idx x a).val = off' a + (x a).val := by
  subst h
  rw [LoadRect.idx_apply]
  show off a + 1 * (x a).val = _
  omega
/-- The same of the rectangle's placing. -/
theorem embIdx {s : Shape} {off off' : Fin s.rank → ℕ} (size : Fin s.rank → ℕ) (inb : ∀ a, off a + size a ≤ s.size a) (h : off = off') (x : (Rect.unit off size inb).shape.Idx) (a : Fin s.rank) :
    ((Rect.unit off size inb).emb x a).val = off' a + (x a).val := ldIdx size inb h x a

/-! ## A tile's operands, of the input blocks -/

/-- Columns `128 n .. 128 n + 127` of the codes block. -/
def wT (x1 : Vec F S1x256x8192 .fp8e4m3) (n : Fin 64) : Vec F S1x256x128 .fp8e4m3 :=
  fun j => x1 (ix3 0 (j 1) ⟨128 * n.val + (j 2).val, by have h : (j 2).val < 128 := (j 2).isLt; omega⟩)
/-- The scale of rows `128 v ..` and columns `128 n ..` of the block of point `i`. -/
def sT (x0 : Vec F S2x112x64 .f32) (i : grid0.Coords) (v : Fin 2) (n : Fin 64) : Elt F .f32 :=
  x0 (ix3 (i 0) ⟨2 * (i 1).val + v.val, by have h : (i 1).val < 56 := (i 1).isLt; omega⟩ n)
/-- Rows `128 n ..` of the transposed A. -/
def aT (x8 : Vec F S8192x16 .bf16) (n : Fin 64) : Vec F S128x16 .bf16 :=
  fun j => x8 (ix2 ⟨128 * n.val + (j 0).val, by have h : (j 0).val < 128 := (j 0).isLt; omega⟩ (j 1))
/-- The transposed, doubled A block. -/
def AT (x2 : Vec F S1x16x8192 .bf16) : Vec F S8192x16 .bf16 := fun y =>
  k0_pay1 (fun j : S1x16x128.Idx => x2 (ix3 0 (j 1) ⟨128 * ((y 0).val / 128) + (j 2).val, by
    have h : (j 2).val < 128 := (j 2).isLt
    have h' : (y 0).val < 8192 := (y 0).isLt
    omega⟩)) (ix2 ⟨(y 0).val % 128, Nat.mod_lt _ (by omega)⟩ (y 1))

/-- The codes of tile `n`. -/
def qT (i : grid0.Coords) (x0 : Vec F S2x112x64 .f32) (x1 : Vec F S1x256x8192 .fp8e4m3) (x8 : Vec F S8192x16 .bf16) (x9 : Vec F S16x256 .bf16) (n : Fin 64) : FVec F S1x256x128 .fp8e4m3 :=
  qpay (wT x1 n) (sT x0 i 0 n) (sT x0 i 1 n) x9 (aT x8 n)
/-- The exponent rows of tile `n`. -/
def eT (i : grid0.Coords) (x0 : Vec F S2x112x64 .f32) (x1 : Vec F S1x256x8192 .fp8e4m3) (x8 : Vec F S8192x16 .bf16) (x9 : Vec F S16x256 .bf16) (n : Fin 64) : IVec S4x256 32 :=
  epay (wT x1 n) (sT x0 i 0 n) (sT x0 i 1 n) x9 (aT x8 n)
/-- All codes of the block. -/
def QB' (i : grid0.Coords) (x0 : Vec F S2x112x64 .f32) (x1 : Vec F S1x256x8192 .fp8e4m3) (x8 : Vec F S8192x16 .bf16) (x9 : Vec F S16x256 .bf16) : Vec F S1x256x8192 .fp8e4m3 := fun y =>
  qT i x0 x1 x8 x9 ⟨(y 2).val / 128, by have h : (y 2).val < 8192 := (y 2).isLt; omega⟩ (ix3 0 (y 1) ⟨(y 2).val % 128, Nat.mod_lt _ (by omega)⟩)
/-- All exponent rows of the block: row `4 n + g` is group `g` of tile `n`. -/
def ES' (i : grid0.Coords) (x0 : Vec F S2x112x64 .f32) (x1 : Vec F S1x256x8192 .fp8e4m3) (x8 : Vec F S8192x16 .bf16) (x9 : Vec F S16x256 .bf16) : Vec F S256x256 .i32 := fun y =>
  eT i x0 x1 x8 x9 ⟨(y 0).val / 4, by have h : (y 0).val < 256 := (y 0).isLt; omega⟩ (ix2 ⟨(y 0).val % 4, Nat.mod_lt _ (by omega)⟩ (y 1))

/-- Tile `u` of trip `k` is tile `2 k + u` of the block. -/
def tileNo (k : Fin k0_t2_loop.trips) (u : Fin 2) : Fin 64 := ⟨2 * k.val + u.val, by have h : k.val < 32 := lt_of_lt_of_eq k.isLt trips2; omega⟩

section Tiles

variable (i : grid0.Coords) (arg2 : Memref sig .tc .smem S2x112x64 .f32) (arg3 : Memref sig .tc .vmem S1x256x8192 .fp8e4m3) (arg4 : Memref sig .tc .vmem S1x16x8192 .bf16) (arg8 : Memref sig .tc .vmem S8192x16 .bf16) (arg9 : Memref sig .tc .vmem S16x256 .bf16)
  (X2 : BufTy.Contents (Elt F) arg2.view.ty) (X3 : BufTy.Contents (Elt F) arg3.view.ty) (X8 : BufTy.Contents (Elt F) arg8.view.ty) (X9 : BufTy.Contents (Elt F) arg9.view.ty) (k : Fin k0_t2_loop.trips)

/-- The codes a trip reads for one of its tiles. -/
theorem tileW_eq (x1 : Vec F S1x256x8192 .fp8e4m3) (h : arg3.view.read (Elt F) X3 = x1) (u : Fin 2) : tileW arg3 X3 k u = wT x1 (tileNo k u) := by
  subst h
  funext j
  rw [tileW, View.readAt_apply]
  unfold wT
  refine congrArg _ (funext fun a => Fin.ext ?_)
  refine (ldIdx _ _ (k0_off3_eq k u) j a).trans ?_
  match a with
  | ⟨0, _⟩ => have h : (j 0).val < 1 := (j 0).isLt; show 0 + (j 0).val = 0; omega
  | ⟨1, _⟩ => show 0 + (j 1).val = (j 1).val; omega
  | ⟨2, _⟩ => show 256 * k.val + 128 * u.val + (j 2).val = 128 * (2 * k.val + u.val) + (j 2).val; omega

/-- A scale a trip reads for one of its tiles. -/
theorem tileS_eq (x0 : Vec F S2x112x64 .f32) (h : arg2.view.read (Elt F) X2 = x0) (v u : Fin 2) : tileS i arg2 X2 k v u = sT x0 i v (tileNo k u) := by
  subst h
  rw [tileS, View.readAt_apply]
  unfold sT
  refine congrArg _ (funext fun a => Fin.ext ?_)
  refine (ldIdx _ _ (k0_off4_eq i k v u) _ a).trans ?_
  match a with
  | ⟨0, _⟩ => show (i 0).val + 0 = (i 0).val; omega
  | ⟨1, _⟩ => show 2 * (i 1).val + v.val + 0 = 2 * (i 1).val + v.val; omega
  | ⟨2, _⟩ => show 2 * k.val + u.val + 0 = 2 * k.val + u.val; omega

/-- The rows of the transposed A a trip reads for one of its tiles. -/
theorem tileA_eq (x8 : Vec F S8192x16 .bf16) (h : arg8.view.read (Elt F) X8 = x8) (u : Fin 2) : tileA arg8 X8 k u = aT x8 (tileNo k u) := by
  subst h
  funext j
  rw [tileA, View.readAt_apply]
  unfold aT
  refine congrArg _ (funext fun a => Fin.ext ?_)
  refine (ldIdx _ _ (k0_off5_eq k u) j a).trans ?_
  match a with
  | ⟨0, _⟩ => show 256 * k.val + 128 * u.val + (j 0).val = 128 * (2 * k.val + u.val) + (j 0).val; omega
  | ⟨1, _⟩ => show 0 + (j 1).val = (j 1).val; omega

/-- The transposed B a trip reads. -/
theorem tileB_eq (x9 : Vec F S16x256 .bf16) (h : arg9.view.read (Elt F) X9 = x9) : tileB arg9 X9 = x9 := by
  subst h
  funext j
  rw [tileB, View.readAt_apply]
  refine congrArg _ (funext fun a => Fin.ext ?_)
  refine (ldIdx _ _ rfl j a).trans ?_
  match a with
  | ⟨0, _⟩ => show 0 + (j 0).val = (j 0).val; omega
  | ⟨1, _⟩ => show 0 + (j 1).val = (j 1).val; omega

variable {X2 X3 X8 X9}
variable {x0 : Vec F S2x112x64 .f32} {x1 : Vec F S1x256x8192 .fp8e4m3} {x8 : Vec F S8192x16 .bf16} {x9 : Vec F S16x256 .bf16}
  (h2 : arg2.view.read (Elt F) X2 = x0) (h3 : arg3.view.read (Elt F) X3 = x1) (h8 : arg8.view.read (Elt F) X8 = x8) (h9 : arg9.view.read (Elt F) X9 = x9)
include h2 h3 h8 h9

/-- The quantized codes a trip stores for one of its tiles. -/
theorem tileQ_eq (u : Fin 2) : tileQ i arg2 arg3 arg8 arg9 X2 X3 X8 X9 k u = qT i x0 x1 x8 x9 (tileNo k u) := by
  unfold tileQ qT
  rw [tileW_eq arg3 X3 k x1 h3, tileS_eq i arg2 X2 k x0 h2, tileS_eq i arg2 X2 k x0 h2, tileB_eq arg9 X9 x9 h9, tileA_eq arg8 X8 k x8 h8]

/-- The exponents a trip stores for one of its tiles. -/
theorem tileE_eq (u : Fin 2) : tileE i arg2 arg3 arg8 arg9 X2 X3 X8 X9 k u = eT i x0 x1 x8 x9 (tileNo k u) := by
  unfold tileE eT
  rw [tileW_eq arg3 X3 k x1 h3, tileS_eq i arg2 X2 k x0 h2, tileS_eq i arg2 X2 k x0 h2, tileB_eq arg9 X9 x9 h9, tileA_eq arg8 X8 k x8 h8]

end Tiles

/-- Row `y` of a trip's eight exponent rows is row `y % 4` of tile `y / 4`. -/
theorem epay2_apply (e : Fin 2 → IVec S4x256 32) (y : S8x256.Idx) :
    epay2 (e 0) (e 1) y = e ⟨(y 0).val / 4, by have h : (y 0).val < 8 := (y 0).isLt; omega⟩ (ix2 ⟨(y 0).val % 4, Nat.mod_lt _ (by omega)⟩ (y 1)) := by
  have hy : (y 0).val < 8 := (y 0).isLt
  have h4 : epay2 (e 0) (e 1) y = concatenate S8x256 0 [⟨S4x256, e 0⟩, ⟨S4x256, e 1⟩] concatenates_S4x256_S4x256_S8x256_d0 y := by
    unfold epay2 k0_pay4
    exact shapeCast_apply _ _ _ y rfl
  rw [h4]
  by_cases h : (y 0).val < 4
  · have e0 : (⟨(y 0).val / 4, by omega⟩ : Fin 2) = 0 := Fin.ext (by show (y 0).val / 4 = 0; omega)
    rw [e0]
    refine concatenate_pair_apply_left (t := S8x256) (s₁ := S4x256) (s₂ := S4x256) 0 (e 0) (e 1) _ y rfl _ fun b => ?_
    match b with
    | ⟨0, _⟩ => show (y 0).val % 4 = (y 0).val; omega
    | ⟨1, _⟩ => rfl
  · have e1 : (⟨(y 0).val / 4, by omega⟩ : Fin 2) = 1 := Fin.ext (by show (y 0).val / 4 = 1; omega)
    rw [e1]
    refine concatenate_pair_apply_right (t := S8x256) (s₁ := S4x256) (s₂ := S4x256) 0 (e 0) (e 1) _ y rfl rfl _ (fun b hb => ?_) ?_
    · match b with
      | ⟨0, _⟩ => exact absurd rfl hb
      | ⟨1, _⟩ => rfl
    · show (y 0).val % 4 + 4 = (y 0).val; omega

/-! ## All the trips -/

/-- A piece in front of pieces that agree with `G`. -/
theorem agree_cons {S : Shape} {e : EltTy} {G : S.Idx → Elt F e} {r : Rect S} {w : r.shape.Idx → Elt F e} {L : List (View.Piece (Elt F) S e)} (h : ∀ x, w x = G (r.emb x))
    (hL : ∀ p ∈ L, ∀ x : p.1.shape.Idx, p.2 x = G (p.1.emb x)) : ∀ p ∈ (⟨r, w⟩ : View.Piece (Elt F) S e) :: L, ∀ x : p.1.shape.Idx, p.2 x = G (p.1.emb x) := by
  intro p hp
  rcases List.mem_cons.mp hp with hp | hp
  · subst hp; exact h
  · exact hL p hp

section All

variable (𝒱 : Variants) (c : Dev nD) (bd : Option 𝒱.V) (i : grid0.Coords) (arg2 : Memref sig .tc .smem S2x112x64 .f32) (harg2 : arg2.IsWhole) (arg3 : Memref sig .tc .vmem S1x256x8192 .fp8e4m3) (harg3 : arg3.IsWhole) (arg4 : Memref sig .tc .vmem S1x16x8192 .bf16) (harg4 : arg4.IsWhole) (arg5 : Memref sig .tc .vmem S1x256x16 .bf16) (harg5 : arg5.IsWhole) (arg6 : Memref sig .tc .vmem S1x256x8192 .fp8e4m3) (harg6 : arg6.IsWhole) (arg7 : Memref sig .tc .vmem S1x256x256 .i8) (harg7 : arg7.IsWhole) (arg8 : Memref sig .tc .vmem S8192x16 .bf16) (harg8 : arg8.IsWhole) (arg9 : Memref sig .tc .vmem S16x256 .bf16) (harg9 : arg9.IsWhole) (arg10 : Memref sig .tc .vmem S256x256 .i32) (harg10 : arg10.IsWhole)

/-- The first loop's pieces agree with `AT`, and the pieces of the trips before `k` cover rows below `128 k`. -/
theorem pb1_spec (h1 : k0_cond1 i = 1#1) (X4 : BufTy.Contents (Elt F) arg4.view.ty) (x2 : Vec F S1x16x8192 .bf16) (h4 : arg4.view.read (Elt F) X4 = x2) :
    ∀ k : ℕ, k ≤ k0_t1_loop.trips →
      (∀ p ∈ pb_k0_t1 (F := F) 𝒱 c bd i arg2 harg2 arg3 harg3 arg4 harg4 arg5 harg5 arg6 harg6 arg7 harg7 arg8 harg8 arg9 harg9 arg10 harg10 h1 X4 k, ∀ x : p.1.shape.Idx, p.2 x = AT x2 (p.1.emb x)) ∧
      (∀ y : S8192x16.Idx, (y 0).val < 128 * k → ∃ p ∈ pb_k0_t1 (F := F) 𝒱 c bd i arg2 harg2 arg3 harg3 arg4 harg4 arg5 harg5 arg6 harg6 arg7 harg7 arg8 harg8 arg9 harg9 arg10 harg10 h1 X4 k, y ∈ p.1.set)
  | 0, _ => ⟨fun p hp => absurd hp List.not_mem_nil, fun y hy => absurd hy (by omega)⟩
  | k + 1, hk => by
    obtain ⟨iha, ihc⟩ := pb1_spec h1 X4 x2 h4 k (by omega)
    have hs := pb_k0_t1_succ (F := F) 𝒱 c bd i arg2 harg2 arg3 harg3 arg4 harg4 arg5 harg5 arg6 harg6 arg7 harg7 arg8 harg8 arg9 harg9 arg10 harg10 h1 X4 ⟨k, hk⟩
    rw [tripL_k0_t1, trip1_eq] at hs
    dsimp only at hs
    rw [hs]
    refine ⟨fun p hp => ?_, fun y hy => ?_⟩
    · rcases List.mem_append.mp hp with hp | hp
      · rw [List.mem_singleton.mp hp]
        intro x
        have hx0 : (x 0).val < 128 := (x 0).isLt
        have hx1 : (x 1).val < 16 := (x 1).isLt
        subst h4
        have e0 : ((Rect.unit (s := S8192x16) (k0_off2 ⟨k, hk⟩) S128x16.size (k0_off2_inb i ⟨k, hk⟩ h1)).emb x 0).val = 128 * k + (x 0).val := by
          exact (embIdx (s := S8192x16) S128x16.size (k0_off2_inb i ⟨k, hk⟩ h1) (k0_off2_eq ⟨k, hk⟩) x _).trans (by rfl)
        have e1 : ((Rect.unit (s := S8192x16) (k0_off2 ⟨k, hk⟩) S128x16.size (k0_off2_inb i ⟨k, hk⟩ h1)).emb x 1) = x 1 := by
          refine Fin.ext ?_
          exact (embIdx (s := S8192x16) S128x16.size (k0_off2_inb i ⟨k, hk⟩ h1) (k0_off2_eq ⟨k, hk⟩) x _).trans (by show 0 + (x 1).val = (x 1).val; omega)
        unfold AT
        refine congr (congrArg (k0_pay1 (F := F)) (funext fun j => ?_)) ?_
        · rw [View.readAt_apply]
          refine congrArg _ (funext fun a => Fin.ext ?_)
          refine (ldIdx _ _ (k0_off1_eq ⟨k, hk⟩) j a).trans ?_
          match a with
          | ⟨0, _⟩ => have h : (j 0).val < 1 := (j 0).isLt; show 0 + (j 0).val = 0; omega
          | ⟨1, _⟩ => show 0 + (j 1).val = (j 1).val; omega
          | ⟨2, _⟩ => show 128 * k + (j 2).val = 128 * (_ / 128) + (j 2).val; rw [e0]; omega
        · funext a
          match a with
          | ⟨0, _⟩ => refine Fin.ext ?_; show (x 0).val = _ % 128; rw [e0]; omega
          | ⟨1, _⟩ => exact e1.symm
      · exact iha p hp
    · by_cases h : (y 0).val < 128 * k
      · obtain ⟨p, hp, hy⟩ := ihc y h
        exact ⟨p, List.mem_append_right _ hp, hy⟩
      · refine ⟨_, List.mem_append_left _ (List.mem_singleton_self _), ?_⟩
        rw [Rect.mem_set_unit]
        simp only [k0_off2_eq]
        intro a
        match a with
        | ⟨0, _⟩ => show 128 * k ≤ (y 0).val ∧ (y 0).val < 128 * k + 128; omega
        | ⟨1, _⟩ => have h : (y 1).val < 16 := (y 1).isLt; show 0 ≤ (y 1).val ∧ (y 1).val < 0 + 16; omega

/-- What the first loop leaves. -/
theorem loop1_read (h1 : k0_cond1 i = 1#1) (X4 : BufTy.Contents (Elt F) arg4.view.ty) (x2 : Vec F S1x16x8192 .bf16) (h4 : arg4.view.read (Elt F) X4 = x2) (G : BufTy.Contents (Elt F) arg8.view.ty) :
    arg8.view.read (Elt F) (arg8.view.writes (Elt F) G (pb_k0_t1 (F := F) 𝒱 c bd i arg2 harg2 arg3 harg3 arg4 harg4 arg5 harg5 arg6 harg6 arg7 harg7 arg8 harg8 arg9 harg9 arg10 harg10 h1 X4 k0_t1_loop.trips)) = AT x2 := by
  obtain ⟨ha, hc⟩ := pb1_spec (F := F) 𝒱 c bd i arg2 harg2 arg3 harg3 arg4 harg4 arg5 harg5 arg6 harg6 arg7 harg7 arg8 harg8 arg9 harg9 arg10 harg10 h1 X4 x2 h4 k0_t1_loop.trips (le_refl _)
  funext y
  have hy : (y 0).val < 8192 := (y 0).isLt
  exact View.read_writes_apply_of_pieces arg8.view G (AT x2) _ ha y (hc y (by rw [trips1]; omega))

variable (a0 a1 : BitVec 32) {X2 : BufTy.Contents (Elt F) arg2.view.ty} {X3 : BufTy.Contents (Elt F) arg3.view.ty} {X8 : BufTy.Contents (Elt F) arg8.view.ty} {X9 : BufTy.Contents (Elt F) arg9.view.ty}
  {x0 : Vec F S2x112x64 .f32} {x1 : Vec F S1x256x8192 .fp8e4m3} {x8 : Vec F S8192x16 .bf16} {x9 : Vec F S16x256 .bf16}
  (h2 : arg2.view.read (Elt F) X2 = x0) (h3 : arg3.view.read (Elt F) X3 = x1) (h8 : arg8.view.read (Elt F) X8 = x8) (h9 : arg9.view.read (Elt F) X9 = x9)
include h2 h3 h8 h9

/-- One tile's piece of the codes agrees with `QB'`. -/
theorem piece_q (k : Fin k0_t2_loop.trips) (u : Fin 2) (x : S1x256x128.Idx) :
    tileQ i arg2 arg3 arg8 arg9 X2 X3 X8 X9 k u x = QB' i x0 x1 x8 x9 ((Rect.unit (s := S1x256x8192) (k0_off3 k (BitVec.ofNat 32 u.val)) S1x256x128.size (k0_off3_inb k u)).emb x) := by
  have hx0 : (x 0).val < 1 := (x 0).isLt
  have hx2 : (x 2).val < 128 := (x 2).isLt
  have e1 : (Rect.unit (s := S1x256x8192) (k0_off3 k (BitVec.ofNat 32 u.val)) S1x256x128.size (k0_off3_inb k u)).emb x 1 = x 1 := by
    refine Fin.ext ?_
    exact (embIdx (s := S1x256x8192) S1x256x128.size (k0_off3_inb k u) (k0_off3_eq k u) x _).trans (by show 0 + (x 1).val = (x 1).val; omega)
  have e2 : ((Rect.unit (s := S1x256x8192) (k0_off3 k (BitVec.ofNat 32 u.val)) S1x256x128.size (k0_off3_inb k u)).emb x 2).val = 256 * k.val + 128 * u.val + (x 2).val := by
    exact (embIdx (s := S1x256x8192) S1x256x128.size (k0_off3_inb k u) (k0_off3_eq k u) x _).trans (by rfl)
  rw [tileQ_eq i arg2 arg3 arg8 arg9 k h2 h3 h8 h9]
  unfold QB'
  refine congr (congrArg (qT i x0 x1 x8 x9) (Fin.ext ?_)) ?_
  · show 2 * k.val + u.val = _ / 128; rw [e2]; omega
  · funext a
    match a with
    | ⟨0, _⟩ => exact Fin.ext (by show (x 0).val = 0; omega)
    | ⟨1, _⟩ => exact e1.symm
    | ⟨2, _⟩ => refine Fin.ext ?_; show (x 2).val = _ % 128; rw [e2]; omega

/-- One trip's piece of the exponent rows agrees with `ES'`. -/
theorem piece_e (k : Fin k0_t2_loop.trips) (x : S8x256.Idx) :
    epay2 (tileE i arg2 arg3 arg8 arg9 X2 X3 X8 X9 k 0) (tileE i arg2 arg3 arg8 arg9 X2 X3 X8 X9 k 1) x
      = ES' i x0 x1 x8 x9 ((Rect.unit (s := S256x256) (k0_off6 k) S8x256.size (k0_off6_inb k)).emb x) := by
  have hx0 : (x 0).val < 8 := (x 0).isLt
  have e0 : ((Rect.unit (s := S256x256) (k0_off6 k) S8x256.size (k0_off6_inb k)).emb x 0).val = 8 * k.val + (x 0).val := by
    exact (embIdx (s := S256x256) S8x256.size (k0_off6_inb k) (k0_off6_eq k) x _).trans (by rfl)
  have e1 : (Rect.unit (s := S256x256) (k0_off6 k) S8x256.size (k0_off6_inb k)).emb x 1 = x 1 := by
    refine Fin.ext ?_
    exact (embIdx (s := S256x256) S8x256.size (k0_off6_inb k) (k0_off6_eq k) x _).trans (by show 0 + (x 1).val = (x 1).val; omega)
  rw [epay2_apply (fun u => tileE i arg2 arg3 arg8 arg9 X2 X3 X8 X9 k u) x]
  dsimp only
  rw [tileE_eq i arg2 arg3 arg8 arg9 k h2 h3 h8 h9]
  unfold ES'
  refine congr (congrArg (eT i x0 x1 x8 x9) (Fin.ext ?_)) ?_
  · show 2 * k.val + (x 0).val / 4 = _ / 4; rw [e0]; omega
  · funext a
    match a with
    | ⟨0, _⟩ => refine Fin.ext ?_; show (x 0).val % 4 = _ % 4; rw [e0]; omega
    | ⟨1, _⟩ => exact e1.symm

omit h2 h3 h8 h9 in
/-- The columns tile `u` of trip `k` covers. -/
theorem mem_off3 (k : Fin k0_t2_loop.trips) (u : Fin 2) (y : S1x256x8192.Idx) (hl : 256 * k.val + 128 * u.val ≤ (y 2).val) (hu : (y 2).val < 256 * k.val + 128 * u.val + 128) :
    y ∈ (Rect.unit (s := S1x256x8192) (k0_off3 k (BitVec.ofNat 32 u.val)) S1x256x128.size (k0_off3_inb k u)).set := by
  have hy0 : (y 0).val < 1 := (y 0).isLt
  have hy1 : (y 1).val < 256 := (y 1).isLt
  rw [Rect.mem_set_unit, k0_off3_eq]
  intro a
  match a with
  | ⟨0, _⟩ => show 0 ≤ (y 0).val ∧ (y 0).val < 0 + 1; omega
  | ⟨1, _⟩ => show 0 ≤ (y 1).val ∧ (y 1).val < 0 + 256; omega
  | ⟨2, _⟩ => exact ⟨hl, hu⟩

omit h2 h3 h8 h9 in
/-- The exponent rows trip `k` covers. -/
theorem mem_off6 (k : Fin k0_t2_loop.trips) (y : S256x256.Idx) (hl : 8 * k.val ≤ (y 0).val) (hu : (y 0).val < 8 * k.val + 8) :
    y ∈ (Rect.unit (s := S256x256) (k0_off6 k) S8x256.size (k0_off6_inb k)).set := by
  have hy1 : (y 1).val < 256 := (y 1).isLt
  rw [Rect.mem_set_unit, k0_off6_eq]
  intro a
  match a with
  | ⟨0, _⟩ => exact ⟨hl, hu⟩
  | ⟨1, _⟩ => show 0 ≤ (y 1).val ∧ (y 1).val < 0 + 256; omega

omit h2 h3 h8 h9 in
/-- The pieces a trip of the tile loop stores to the codes. -/
theorem tripL2_q (k : Fin k0_t2_loop.trips) : (tripL_k0_t2 (F := F) 𝒱 c bd i arg2 harg2 arg3 harg3 arg4 harg4 arg5 harg5 arg6 harg6 arg7 harg7 arg8 harg8 arg9 harg9 arg10 harg10 a0 a1 X2 X3 X8 X9 k).1
    = [⟨Rect.unit (s := S1x256x8192) (k0_off3 k (BitVec.ofNat 32 (1 : Fin 2).val)) S1x256x128.size (k0_off3_inb k 1), tileQ i arg2 arg3 arg8 arg9 X2 X3 X8 X9 k 1⟩,
       ⟨Rect.unit (s := S1x256x8192) (k0_off3 k (BitVec.ofNat 32 (0 : Fin 2).val)) S1x256x128.size (k0_off3_inb k 0), tileQ i arg2 arg3 arg8 arg9 X2 X3 X8 X9 k 0⟩] := trip2_q_eq (F := F) 𝒱 c bd i arg2 harg2 arg3 harg3 arg4 harg4 arg5 harg5 arg6 harg6 arg7 harg7 arg8 harg8 arg9 harg9 arg10 harg10 a0 a1 X2 X3 X8 X9 k
omit h2 h3 h8 h9 in
/-- One more trip's pieces of the codes. -/
theorem pb2_step_q (k : Fin k0_t2_loop.trips) : (pb_k0_t2 (F := F) 𝒱 c bd i arg2 harg2 arg3 harg3 arg4 harg4 arg5 harg5 arg6 harg6 arg7 harg7 arg8 harg8 arg9 harg9 arg10 harg10 a0 a1 X2 X3 X8 X9 (k.val + 1)).1 = (tripL_k0_t2 (F := F) 𝒱 c bd i arg2 harg2 arg3 harg3 arg4 harg4 arg5 harg5 arg6 harg6 arg7 harg7 arg8 harg8 arg9 harg9 arg10 harg10 a0 a1 X2 X3 X8 X9 k).1 ++ (pb_k0_t2 (F := F) 𝒱 c bd i arg2 harg2 arg3 harg3 arg4 harg4 arg5 harg5 arg6 harg6 arg7 harg7 arg8 harg8 arg9 harg9 arg10 harg10 a0 a1 X2 X3 X8 X9 k.val).1 := by
  rw [pb_k0_t2_succ]
omit h2 h3 h8 h9 in
/-- One more trip: its two tiles of codes in front. -/
theorem pb2_succ_q (k : Fin k0_t2_loop.trips) : (pb_k0_t2 (F := F) 𝒱 c bd i arg2 harg2 arg3 harg3 arg4 harg4 arg5 harg5 arg6 harg6 arg7 harg7 arg8 harg8 arg9 harg9 arg10 harg10 a0 a1 X2 X3 X8 X9 (k.val + 1)).1
    = [⟨Rect.unit (s := S1x256x8192) (k0_off3 k (BitVec.ofNat 32 (1 : Fin 2).val)) S1x256x128.size (k0_off3_inb k 1), tileQ i arg2 arg3 arg8 arg9 X2 X3 X8 X9 k 1⟩,
       ⟨Rect.unit (s := S1x256x8192) (k0_off3 k (BitVec.ofNat 32 (0 : Fin 2).val)) S1x256x128.size (k0_off3_inb k 0), tileQ i arg2 arg3 arg8 arg9 X2 X3 X8 X9 k 0⟩]
      ++ (pb_k0_t2 (F := F) 𝒱 c bd i arg2 harg2 arg3 harg3 arg4 harg4 arg5 harg5 arg6 harg6 arg7 harg7 arg8 harg8 arg9 harg9 arg10 harg10 a0 a1 X2 X3 X8 X9 k.val).1 := by
  rw [pb2_step_q, tripL2_q]

omit h2 h3 h8 h9 in
/-- The pieces a trip of the tile loop stores to the exponents' scratch. -/
theorem tripL2_e (k : Fin k0_t2_loop.trips) : (tripL_k0_t2 (F := F) 𝒱 c bd i arg2 harg2 arg3 harg3 arg4 harg4 arg5 harg5 arg6 harg6 arg7 harg7 arg8 harg8 arg9 harg9 arg10 harg10 a0 a1 X2 X3 X8 X9 k).2
    = [⟨Rect.unit (s := S256x256) (k0_off6 k) S8x256.size (k0_off6_inb k), epay2 (tileE i arg2 arg3 arg8 arg9 X2 X3 X8 X9 k 0) (tileE i arg2 arg3 arg8 arg9 X2 X3 X8 X9 k 1)⟩] := trip2_e_eq (F := F) 𝒱 c bd i arg2 harg2 arg3 harg3 arg4 harg4 arg5 harg5 arg6 harg6 arg7 harg7 arg8 harg8 arg9 harg9 arg10 harg10 a0 a1 X2 X3 X8 X9 k
omit h2 h3 h8 h9 in
/-- One more trip's pieces of the exponents. -/
theorem pb2_step_e (k : Fin k0_t2_loop.trips) : (pb_k0_t2 (F := F) 𝒱 c bd i arg2 harg2 arg3 harg3 arg4 harg4 arg5 harg5 arg6 harg6 arg7 harg7 arg8 harg8 arg9 harg9 arg10 harg10 a0 a1 X2 X3 X8 X9 (k.val + 1)).2 = (tripL_k0_t2 (F := F) 𝒱 c bd i arg2 harg2 arg3 harg3 arg4 harg4 arg5 harg5 arg6 harg6 arg7 harg7 arg8 harg8 arg9 harg9 arg10 harg10 a0 a1 X2 X3 X8 X9 k).2 ++ (pb_k0_t2 (F := F) 𝒱 c bd i arg2 harg2 arg3 harg3 arg4 harg4 arg5 harg5 arg6 harg6 arg7 harg7 arg8 harg8 arg9 harg9 arg10 harg10 a0 a1 X2 X3 X8 X9 k.val).2 := by
  rw [pb_k0_t2_succ]
omit h2 h3 h8 h9 in
/-- One more trip: its exponent rows in front. -/
theorem pb2_succ_e (k : Fin k0_t2_loop.trips) : (pb_k0_t2 (F := F) 𝒱 c bd i arg2 harg2 arg3 harg3 arg4 harg4 arg5 harg5 arg6 harg6 arg7 harg7 arg8 harg8 arg9 harg9 arg10 harg10 a0 a1 X2 X3 X8 X9 (k.val + 1)).2
    = [⟨Rect.unit (s := S256x256) (k0_off6 k) S8x256.size (k0_off6_inb k), epay2 (tileE i arg2 arg3 arg8 arg9 X2 X3 X8 X9 k 0) (tileE i arg2 arg3 arg8 arg9 X2 X3 X8 X9 k 1)⟩]
      ++ (pb_k0_t2 (F := F) 𝒱 c bd i arg2 harg2 arg3 harg3 arg4 harg4 arg5 harg5 arg6 harg6 arg7 harg7 arg8 harg8 arg9 harg9 arg10 harg10 a0 a1 X2 X3 X8 X9 k.val).2 := by
  rw [pb2_step_e, tripL2_e]

/-- The second loop's pieces of codes agree with `QB'`. -/
theorem pb2_agree_q (k : ℕ) (hk : k ≤ k0_t2_loop.trips) : ∀ p ∈ (pb_k0_t2 (F := F) 𝒱 c bd i arg2 harg2 arg3 harg3 arg4 harg4 arg5 harg5 arg6 harg6 arg7 harg7 arg8 harg8 arg9 harg9 arg10 harg10 a0 a1 X2 X3 X8 X9 k).1, ∀ x : p.1.shape.Idx, p.2 x = QB' i x0 x1 x8 x9 (p.1.emb x) := by
  induction k with
  | zero => exact fun p hp => absurd hp List.not_mem_nil
  | succ k ih =>
    rw [pb2_succ_q 𝒱 c bd i arg2 harg2 arg3 harg3 arg4 harg4 arg5 harg5 arg6 harg6 arg7 harg7 arg8 harg8 arg9 harg9 arg10 harg10 a0 a1 ⟨k, hk⟩]
    exact agree_cons (piece_q i arg2 arg3 arg8 arg9 h2 h3 h8 h9 ⟨k, hk⟩ 1) (agree_cons (piece_q i arg2 arg3 arg8 arg9 h2 h3 h8 h9 ⟨k, hk⟩ 0) (ih (by omega)))

omit h2 h3 h8 h9 in
/-- The pieces of the trips before `k` cover columns below `256 k`. -/
theorem pb2_cover_q (k : ℕ) (hk : k ≤ k0_t2_loop.trips) (y : S1x256x8192.Idx) (hy : (y 2).val < 256 * k) : ∃ p ∈ (pb_k0_t2 (F := F) 𝒱 c bd i arg2 harg2 arg3 harg3 arg4 harg4 arg5 harg5 arg6 harg6 arg7 harg7 arg8 harg8 arg9 harg9 arg10 harg10 a0 a1 X2 X3 X8 X9 k).1, y ∈ p.1.set := by
  induction k with
  | zero => exact absurd hy (by omega)
  | succ k ih =>
    rw [pb2_succ_q 𝒱 c bd i arg2 harg2 arg3 harg3 arg4 harg4 arg5 harg5 arg6 harg6 arg7 harg7 arg8 harg8 arg9 harg9 arg10 harg10 a0 a1 ⟨k, hk⟩]
    by_cases h : (y 2).val < 256 * k
    · obtain ⟨p, hp, hy⟩ := ih (by omega) h
      exact ⟨p, List.mem_append_right _ hp, hy⟩
    · by_cases h' : (y 2).val < 256 * k + 128
      · exact ⟨_, List.mem_append_left _ (List.mem_cons_of_mem _ (List.mem_singleton_self _)), mem_off3 ⟨k, hk⟩ 0 y (by show 256 * k + 128 * 0 ≤ _; omega) (by show _ < 256 * k + 128 * 0 + 128; omega)⟩
      · exact ⟨_, List.mem_append_left _ List.mem_cons_self, mem_off3 ⟨k, hk⟩ 1 y (by show 256 * k + 128 * 1 ≤ _; omega) (by show _ < 256 * k + 128 * 1 + 128; omega)⟩

/-- The second loop's pieces of exponent rows agree with `ES'`. -/
theorem pb2_agree_e (k : ℕ) (hk : k ≤ k0_t2_loop.trips) : ∀ p ∈ (pb_k0_t2 (F := F) 𝒱 c bd i arg2 harg2 arg3 harg3 arg4 harg4 arg5 harg5 arg6 harg6 arg7 harg7 arg8 harg8 arg9 harg9 arg10 harg10 a0 a1 X2 X3 X8 X9 k).2, ∀ x : p.1.shape.Idx, p.2 x = ES' i x0 x1 x8 x9 (p.1.emb x) := by
  induction k with
  | zero => exact fun p hp => absurd hp List.not_mem_nil
  | succ k ih =>
    rw [pb2_succ_e 𝒱 c bd i arg2 harg2 arg3 harg3 arg4 harg4 arg5 harg5 arg6 harg6 arg7 harg7 arg8 harg8 arg9 harg9 arg10 harg10 a0 a1 ⟨k, hk⟩]
    exact agree_cons (piece_e i arg2 arg3 arg8 arg9 h2 h3 h8 h9 ⟨k, hk⟩) (ih (by omega))

omit h2 h3 h8 h9 in
/-- The pieces of the trips before `k` cover exponent rows below `8 k`. -/
theorem pb2_cover_e (k : ℕ) (hk : k ≤ k0_t2_loop.trips) (y : S256x256.Idx) (hy : (y 0).val < 8 * k) : ∃ p ∈ (pb_k0_t2 (F := F) 𝒱 c bd i arg2 harg2 arg3 harg3 arg4 harg4 arg5 harg5 arg6 harg6 arg7 harg7 arg8 harg8 arg9 harg9 arg10 harg10 a0 a1 X2 X3 X8 X9 k).2, y ∈ p.1.set := by
  induction k with
  | zero => exact absurd hy (by omega)
  | succ k ih =>
    rw [pb2_succ_e 𝒱 c bd i arg2 harg2 arg3 harg3 arg4 harg4 arg5 harg5 arg6 harg6 arg7 harg7 arg8 harg8 arg9 harg9 arg10 harg10 a0 a1 ⟨k, hk⟩]
    by_cases h : (y 0).val < 8 * k
    · obtain ⟨p, hp, hy⟩ := ih (by omega) h
      exact ⟨p, List.mem_append_right _ hp, hy⟩
    · exact ⟨_, List.mem_append_left _ (List.mem_singleton_self _), mem_off6 ⟨k, hk⟩ y (by show 8 * k ≤ _; omega) (by show _ < 8 * k + 8; omega)⟩

/-- What the second loop leaves in the codes block. -/
theorem loop2_read_q (G : BufTy.Contents (Elt F) arg6.view.ty) :
    arg6.view.read (Elt F) (arg6.view.writes (Elt F) G (pb_k0_t2 (F := F) 𝒱 c bd i arg2 harg2 arg3 harg3 arg4 harg4 arg5 harg5 arg6 harg6 arg7 harg7 arg8 harg8 arg9 harg9 arg10 harg10 a0 a1 X2 X3 X8 X9 k0_t2_loop.trips).1) = QB' i x0 x1 x8 x9 := by
  funext y
  have hy : (y 2).val < 8192 := (y 2).isLt
  exact View.read_writes_apply_of_pieces arg6.view G _ _ (pb2_agree_q 𝒱 c bd i arg2 harg2 arg3 harg3 arg4 harg4 arg5 harg5 arg6 harg6 arg7 harg7 arg8 harg8 arg9 harg9 arg10 harg10 a0 a1 h2 h3 h8 h9 _ (le_refl _)) y (pb2_cover_q 𝒱 c bd i arg2 harg2 arg3 harg3 arg4 harg4 arg5 harg5 arg6 harg6 arg7 harg7 arg8 harg8 arg9 harg9 arg10 harg10 a0 a1 _ (le_refl _) y (by rw [trips2]; omega))

/-- What it leaves in the exponent rows. -/
theorem loop2_read_e (G : BufTy.Contents (Elt F) arg10.view.ty) :
    arg10.view.read (Elt F) (arg10.view.writes (Elt F) G (pb_k0_t2 (F := F) 𝒱 c bd i arg2 harg2 arg3 harg3 arg4 harg4 arg5 harg5 arg6 harg6 arg7 harg7 arg8 harg8 arg9 harg9 arg10 harg10 a0 a1 X2 X3 X8 X9 k0_t2_loop.trips).2) = ES' i x0 x1 x8 x9 := by
  funext y
  have hy : (y 0).val < 256 := (y 0).isLt
  exact View.read_writes_apply_of_pieces arg10.view G _ _ (pb2_agree_e 𝒱 c bd i arg2 harg2 arg3 harg3 arg4 harg4 arg5 harg5 arg6 harg6 arg7 harg7 arg8 harg8 arg9 harg9 arg10 harg10 a0 a1 h2 h3 h8 h9 _ (le_refl _)) y (pb2_cover_e 𝒱 c bd i arg2 harg2 arg3 harg3 arg4 harg4 arg5 harg5 arg6 harg6 arg7 harg7 arg8 harg8 arg9 harg9 arg10 harg10 a0 a1 _ (le_refl _) y (by rw [trips2]; omega))

end All

end Cert.KernelIdeal.Hand

end
-- ==== Proof.KernelRun.lean ====
/- The kernel body's triple, with what it leaves in each buffer as a function of the point's input blocks. -/
module

public import proofs.«01_k».proof.Proof.KernelLoops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The codes of point `i`'s block, of its four input blocks. -/
def QB (i : grid0.Coords) (x0 : Vec F S2x112x64 .f32) (x1 : Vec F S1x256x8192 .fp8e4m3) (x2 : Vec F S1x16x8192 .bf16) (x3 : Vec F S1x256x16 .bf16) : Vec F S1x256x8192 .fp8e4m3 :=
  QB' i x0 x1 (AT x2) (k0_pay2 x3)
/-- The exponents of point `i`'s block, of its four input blocks. -/
def EB (i : grid0.Coords) (x0 : Vec F S2x112x64 .f32) (x1 : Vec F S1x256x8192 .fp8e4m3) (x2 : Vec F S1x16x8192 .bf16) (x3 : Vec F S1x256x16 .bf16) : Vec F S1x256x256 .i8 :=
  k0_pay5 (ES' i x0 x1 (AT x2) (k0_pay2 x3))

/-- Reading a whole buffer back after one store over all of it. -/
theorem read_whole_piece {κ : Kind} {sp : Space} {S : Shape} {e : EltTy} (v : View sig κ sp S e) (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  funext y
  refine View.read_writes_apply_of_pieces v f w _ (agree_cons (fun x => ?_) fun p hp => absurd hp List.not_mem_nil) y ⟨_, List.mem_singleton_self _, View.mem_set_unit_zero h inb y⟩
  subst h
  refine congrArg w (funext fun a => Fin.ext ?_)
  rw [embIdx S.size inb rfl x a]
  show (x a).val = 0 + (x a).val
  omega

/-- Reading a whole buffer by a load of all of it. -/
theorem readAt_whole {κ : Kind} {sp : Space} {S : Shape} {e : EltTy} (v : View sig κ sp S e) (f : v.ty.Contents (Elt F)) {off : Fin S.rank → ℕ} (h : off = fun _ => 0)
    (inb : ∀ a, off a + S.size a ≤ S.size a) : v.readAt (Elt F) (Rect.unit off S.size inb).toLoadRect f = v.read (Elt F) f := by
  funext x
  rw [View.readAt_apply]
  subst h
  refine congrArg _ (funext fun a => Fin.ext ?_)
  rw [ldIdx S.size inb rfl x a]
  show 0 + (x a).val = (x a).val
  omega

/-- The offset of a whole-buffer access is zero. -/
theorem zero_off_16x256 : (![0, 0] : Fin S16x256.rank → ℕ) = fun _ => 0 := by decide
/-- The offset of a whole-buffer access is zero. -/
theorem zero_off_256x256 : (![0, 0] : Fin S256x256.rank → ℕ) = fun _ => 0 := by decide
/-- The offset of a whole-buffer access is zero. -/
theorem zero_off_1x256x256 : (![0, 0, 0] : Fin S1x256x256.rank → ℕ) = fun _ => 0 := by decide
/-- The offset of a whole-buffer access is zero. -/
theorem zero_off_1x256x16 : (![0, 0, 0] : Fin S1x256x16.rank → ℕ) = fun _ => 0 := by decide

set_option maxHeartbeats 4000000 in
/-- The body at a point that fills the transposed A. -/
theorem runA (c : Dev nD) (i : grid0.Coords) (arg2 : Memref sig .tc .smem S2x112x64 .f32) (harg2 : arg2.IsWhole) (arg3 : Memref sig .tc .vmem S1x256x8192 .fp8e4m3) (harg3 : arg3.IsWhole) (arg4 : Memref sig .tc .vmem S1x16x8192 .bf16) (harg4 : arg4.IsWhole) (arg5 : Memref sig .tc .vmem S1x256x16 .bf16) (harg5 : arg5.IsWhole) (arg6 : Memref sig .tc .vmem S1x256x8192 .fp8e4m3) (harg6 : arg6.IsWhole) (arg7 : Memref sig .tc .vmem S1x256x256 .i8) (harg7 : arg7.IsWhole) (arg8 : Memref sig .tc .vmem S8192x16 .bf16) (harg8 : arg8.IsWhole) (arg9 : Memref sig .tc .vmem S16x256 .bf16) (harg9 : arg9.IsWhole) (arg10 : Memref sig .tc .vmem S256x256 .i32) (harg10 : arg10.IsWhole) (hc0 : k0_cond1 i = 1#1)
    (x0 : Vec F S2x112x64 .f32) (x1 : Vec F S1x256x8192 .fp8e4m3) (x2 : Vec F S1x16x8192 .bf16) (x3 : Vec F S1x256x16 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (QB i x0 x1 x2 x3) ∗ owns (c : Thread nD τ) arg7 fullShare (EB i x0 x1 x2 x3) ∗ owns (c : Thread nD τ) arg8 fullShare (AT x2) ∗ (∃ d, owns (c : Thread nD τ) arg9 fullShare d) ∗ (∃ d, owns (c : Thread nD τ) arg10 fullShare d)) -∗ K ⟨⟩))
      ⊢ wp frame (wpE (defs₀ (F := F)) Variants.none c none) E (cc0_lora_merge_requant i arg2 harg2 arg3 harg3 arg4 harg4 arg5 harg5 arg6 harg6 arg7 harg7 arg8 harg8 arg9 harg9 arg10 harg10) K := by
  simp only [cc0_lora_merge_requant_eq_skeleton]; unfold cc0_lora_merge_requant_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  have h9 : ∀ (fs1 : BufTy.Contents (Elt F) arg9.view.ty), arg9.view.read (Elt F) (arg9.view.writes (Elt F) fs1 [⟨Rect.unit (s := S16x256) ![0, 0] S16x256.size inb_S16x256_S16x256_0_0, k0_pay2 (View.readAt (Elt F) arg5.view (Rect.unit (s := S1x256x16) ![0, 0, 0] S1x256x16.size inb_S1x256x16_S1x256x16_0_0_0).toLoadRect (harg5.unread x3))⟩]) = k0_pay2 x3 := by
    intro fs1
    rw [read_whole_piece arg9.view fs1 zero_off_16x256, readAt_whole arg5.view _ zero_off_1x256x16, harg5.read_unread]
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact loop2_read_q Variants.none c none i arg2 harg2 arg3 harg3 arg4 harg4 arg5 harg5 arg6 harg6 arg7 harg7 arg8 harg8 arg9 harg9 arg10 harg10 _ _ (harg2.read_unread _) (harg3.read_unread _) (loop1_read Variants.none c none i arg2 harg2 arg3 harg3 arg4 harg4 arg5 harg5 arg6 harg6 arg7 harg7 arg8 harg8 arg9 harg9 arg10 harg10 hc0 _ x2 (harg4.read_unread _) _) (h9 _) f4
  isplitl [H5]
  · iexists _; isplitr; swap; · iexact H5
    ipureintro
    refine (read_whole_piece arg7.view f5 zero_off_1x256x256 inb_S1x256x256_S1x256x256_0_0_0 _).trans ?_
    exact congrArg (k0_pay5 (F := F)) ((readAt_whole arg10.view _ zero_off_256x256 inb_S256x256_S256x256_0_0).trans (loop2_read_e Variants.none c none i arg2 harg2 arg3 harg3 arg4 harg4 arg5 harg5 arg6 harg6 arg7 harg7 arg8 harg8 arg9 harg9 arg10 harg10 _ _ (harg2.read_unread _) (harg3.read_unread _) (loop1_read Variants.none c none i arg2 harg2 arg3 harg3 arg4 harg4 arg5 harg5 arg6 harg6 arg7 harg7 arg8 harg8 arg9 harg9 arg10 harg10 hc0 _ x2 (harg4.read_unread _) _) (h9 _) _))
  isplitl [HS0]
  · iexists _; isplitr; swap; · iexact HS0
    ipureintro
    exact (loop1_read Variants.none c none i arg2 harg2 arg3 harg3 arg4 harg4 arg5 harg5 arg6 harg6 arg7 harg7 arg8 harg8 arg9 harg9 arg10 harg10 hc0 _ x2 (harg4.read_unread _) _)
  isplitl [HS1]
  · iexists _, _; isplitr; swap; · iexact HS1
    ipureintro; rfl
  iexists _, _; isplitr; swap; · iexact HS2
  ipureintro; rfl

set_option maxHeartbeats 4000000 in
/-- The body at a point that finds the transposed A of its block. -/
theorem runB (c : Dev nD) (i : grid0.Coords) (arg2 : Memref sig .tc .smem S2x112x64 .f32) (harg2 : arg2.IsWhole) (arg3 : Memref sig .tc .vmem S1x256x8192 .fp8e4m3) (harg3 : arg3.IsWhole) (arg4 : Memref sig .tc .vmem S1x16x8192 .bf16) (harg4 : arg4.IsWhole) (arg5 : Memref sig .tc .vmem S1x256x16 .bf16) (harg5 : arg5.IsWhole) (arg6 : Memref sig .tc .vmem S1x256x8192 .fp8e4m3) (harg6 : arg6.IsWhole) (arg7 : Memref sig .tc .vmem S1x256x256 .i8) (harg7 : arg7.IsWhole) (arg8 : Memref sig .tc .vmem S8192x16 .bf16) (harg8 : arg8.IsWhole) (arg9 : Memref sig .tc .vmem S16x256 .bf16) (harg9 : arg9.IsWhole) (arg10 : Memref sig .tc .vmem S256x256 .i32) (harg10 : arg10.IsWhole) (hc0 : ¬ k0_cond1 i = 1#1)
    (x0 : Vec F S2x112x64 .f32) (x1 : Vec F S1x256x8192 .fp8e4m3) (x2 : Vec F S1x16x8192 .bf16) (x3 : Vec F S1x256x16 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare (AT x2) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (QB i x0 x1 x2 x3) ∗ owns (c : Thread nD τ) arg7 fullShare (EB i x0 x1 x2 x3) ∗ owns (c : Thread nD τ) arg8 fullShare (AT x2) ∗ (∃ d, owns (c : Thread nD τ) arg9 fullShare d) ∗ (∃ d, owns (c : Thread nD τ) arg10 fullShare d)) -∗ K ⟨⟩))
      ⊢ wp frame (wpE (defs₀ (F := F)) Variants.none c none) E (cc0_lora_merge_requant i arg2 harg2 arg3 harg3 arg4 harg4 arg5 harg5 arg6 harg6 arg7 harg7 arg8 harg8 arg9 harg9 arg10 harg10) K := by
  simp only [cc0_lora_merge_requant_eq_skeleton]; unfold cc0_lora_merge_requant_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg8.eq_unread hfs0
  have h9 : ∀ (fs1 : BufTy.Contents (Elt F) arg9.view.ty), arg9.view.read (Elt F) (arg9.view.writes (Elt F) fs1 [⟨Rect.unit (s := S16x256) ![0, 0] S16x256.size inb_S16x256_S16x256_0_0, k0_pay2 (View.readAt (Elt F) arg5.view (Rect.unit (s := S1x256x16) ![0, 0, 0] S1x256x16.size inb_S1x256x16_S1x256x16_0_0_0).toLoadRect (harg5.unread x3))⟩]) = k0_pay2 x3 := by
    intro fs1
    rw [read_whole_piece arg9.view fs1 zero_off_16x256, readAt_whole arg5.view _ zero_off_1x256x16, harg5.read_unread]
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact loop2_read_q Variants.none c none i arg2 harg2 arg3 harg3 arg4 harg4 arg5 harg5 arg6 harg6 arg7 harg7 arg8 harg8 arg9 harg9 arg10 harg10 _ _ (harg2.read_unread _) (harg3.read_unread _) (harg8.read_unread _) (h9 _) f4
  isplitl [H5]
  · iexists _; isplitr; swap; · iexact H5
    ipureintro
    refine (read_whole_piece arg7.view f5 zero_off_1x256x256 inb_S1x256x256_S1x256x256_0_0_0 _).trans ?_
    exact congrArg (k0_pay5 (F := F)) ((readAt_whole arg10.view _ zero_off_256x256 inb_S256x256_S256x256_0_0).trans (loop2_read_e Variants.none c none i arg2 harg2 arg3 harg3 arg4 harg4 arg5 harg5 arg6 harg6 arg7 harg7 arg8 harg8 arg9 harg9 arg10 harg10 _ _ (harg2.read_unread _) (harg3.read_unread _) (harg8.read_unread _) (h9 _) _))
  isplitl [HS0]
  · iexists _; isplitr; swap; · iexact HS0
    ipureintro
    exact (harg8.read_unread _)
  isplitl [HS1]
  · iexists _, _; isplitr; swap; · iexact HS1
    ipureintro; rfl
  iexists _, _; isplitr; swap; · iexact HS2
  ipureintro; rfl

end Cert.KernelIdeal.Hand

end
-- ==== Proof.KernelFrame.lean ====
/- The kernel's run: what its two result arrays end holding, and that its arguments end unchanged. -/
module

public import proofs.«01_k».proof.Proof.KernelRun
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The transposed A is filled at the first point of each batch. -/
theorem hcond0_0 : ∀ t : Fin cfg0.N, k0_cond1 (grid0.coords t) = 1#1 ↔ t.val % 56 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 1 % 56 := Pipeline.Grid.coords_val t 1 (by decide) rfl
    simp only [k0_cond1, e0, e1]
    word_cmp
   : ∀ t : Fin grid0.N, k0_cond1 (grid0.coords t) = 1#1 ↔ t.val % 56 = 0)

abbrev ms0_0 (t : Fin cfg0.N) : Memref sig .tc .smem S2x112x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x16 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x256 .i8 := win0_5.stage (cfg0.slots t 5)
abbrev hs0_5 (t : Fin cfg0.N) : (ms0_5 t).IsWhole := hstage0_5 ((cfg0.slots t 5).cast nbuf0_5)
abbrev scM0_0 : Memref sig .tc .vmem S8192x16 .bf16 := Memref.whole cc0_scratch0
abbrev scM0_1 : Memref sig .tc .vmem S16x256 .bf16 := Memref.whole cc0_scratch1
abbrev scM0_2 : Memref sig .tc .vmem S256x256 .i32 := Memref.whole cc0_scratch2

/-- The region's invariant with the scratch operands as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The blocks of the input windows, at an index -/

/-- Window 2's block index: the batch. -/
theorem idx0_2 : ∀ t : Fin cfg0.N, win0_2.index t (0 : Fin 3) = t.val / 56 ∧ win0_2.index t (1 : Fin 3) = 0 ∧ win0_2.index t (2 : Fin 3) = 0 :=
  (by decide +kernel : ∀ t : Fin grid0.N, _)

/-- Two points of one batch read the same block of A. -/
theorem iblk2_congr (c : Dev nD) (t t' : Fin cfg0.N) (h : t.val / 56 = t'.val / 56) :
    (iblk m c 2 t : Vec F S1x16x8192 .bf16) = iblk m c 2 t' := by
  obtain ⟨e0, e1, e2⟩ := idx0_2 t
  obtain ⟨f0, f1, f2⟩ := idx0_2 t'
  funext j
  show V m c main_arg2 (((cfg0.win 2).blk t).view.emb j) = V m c main_arg2 (((cfg0.win 2).blk t').view.emb j)
  refine congrArg (V m c main_arg2) (funext fun a => Fin.ext ?_)
  match a with
  | ⟨0, _⟩ => show win0_2.index t (0 : Fin 3) * 1 + 1 * (j 0).val = win0_2.index t' (0 : Fin 3) * 1 + 1 * (j 0).val; omega
  | ⟨1, _⟩ => show win0_2.index t (1 : Fin 3) * 16 + 1 * (j 1).val = win0_2.index t' (1 : Fin 3) * 16 + 1 * (j 1).val; omega
  | ⟨2, _⟩ => show win0_2.index t (2 : Fin 3) * 8192 + 1 * (j 2).val = win0_2.index t' (2 : Fin 3) * 8192 + 1 * (j 2).val; omega

/-! ## The region's invariant -/

/-- What the transposed-A scratch holds after point `n`. -/
def scA (c : Dev nD) (n : ℕ) (hn : n < cfg0.N) : Vec F S8192x16 .bf16 := AT (iblk m c 2 ⟨n, hn⟩)

/-- Before the first point every scratch holds anything; afterwards the transposed A holds this batch's. -/
def PhiS (c : Dev nD) : (n : ℕ) → n ≤ cfg0.N → sProp 𝕄
  | 0, _ => Pipeline.ΦA spec0 c
  | n + 1, hn => iprop(iprop(owns (c : Thread nD τ) scM0_0 fullShare (scA m c n hn) ∗ (∃ d, owns (c : Thread nD τ) scM0_1 fullShare d) ∗ (∃ d, owns (c : Thread nD τ) scM0_2 fullShare d)) ∗ (∃ r, prngReg c r))

/-- Before the first point the scratch buffers are as the region finds them. -/
theorem PhiS_zero (c : Dev nD) (n : ℕ) (h : n ≤ cfg0.N) (hz : n = 0) : PhiS m c n h = Pipeline.ΦA spec0 c := by
  subst hz; rfl

/-- After a point, what the scratch buffers hold. -/
theorem PhiS_succ (c : Dev nD) (n : ℕ) (hn : n < cfg0.N) :
    PhiS m c (n + 1) hn = iprop(iprop(owns (c : Thread nD τ) scM0_0 fullShare (scA m c n hn) ∗ (∃ d, owns (c : Thread nD τ) scM0_1 fullShare d) ∗ (∃ d, owns (c : Thread nD τ) scM0_2 fullShare d)) ∗ (∃ r, prngReg c r)) := rfl

/-- At any later point, what the scratch buffers hold. -/
theorem PhiS_pos (c : Dev nD) (n : ℕ) (h : n ≤ cfg0.N) (hz : n ≠ 0) :
    PhiS m c n h = iprop(iprop(owns (c : Thread nD τ) scM0_0 fullShare (scA m c (n - 1) (by omega)) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- At a point that does not fill it, the transposed A already holds the point's own batch. -/
theorem scA_prev (c : Dev nD) (t : Fin cfg0.N) (h0 : ¬t.val % 56 = 0) (h : t.val - 1 < cfg0.N) :
    scA m c (t.val - 1) h = AT (iblk m c 2 t) :=
  congrArg AT (iblk2_congr m c _ _ (by show (t.val - 1) / 56 = t.val / 56; omega))

/-- The proof data: each input's buffer at its block, the outputs' at `QB` and `EB` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => QB (grid0.coords t) (iblk m c 0 t) (iblk m c 1 t) (iblk m c 2 t) (iblk m c 3 t)
    | ⟨5, _⟩ => EB (grid0.coords t) (iblk m c 0 t) (iblk m c 1 t) (iblk m c 2 t) (iblk m c 3 t)
  Φ t := PhiS m c t.val (Nat.le_of_lt_succ t.isLt)
  q _ := fullShare
  owed _ := 0

/-- The arrays as the region finds them. -/
theorem A_eq (c : Dev nD) (w : Fin cfg0.W) : (dats m 0 c).A w = V m c (Pipeline.arrRef spec0 w) := by
  dsimp only [dats]

/-- The scratch state before point `t`, by its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The scales' buffer is left as staged. -/
theorem after0_0 (c : Dev nD) (t : Fin cfg0.N) : (dats m 0 c).after 0 t = iblk m c 0 t := by dsimp only [dats]
/-- The codes' buffer is left as staged. -/
theorem after0_1 (c : Dev nD) (t : Fin cfg0.N) : (dats m 0 c).after 1 t = iblk m c 1 t := by dsimp only [dats]
/-- A's buffer is left as staged. -/
theorem after0_2 (c : Dev nD) (t : Fin cfg0.N) : (dats m 0 c).after 2 t = iblk m c 2 t := by dsimp only [dats]
/-- B's buffer is left as staged. -/
theorem after0_3 (c : Dev nD) (t : Fin cfg0.N) : (dats m 0 c).after 3 t = iblk m c 3 t := by dsimp only [dats]
/-- After a point, the output buffer of codes. -/
theorem after0_4 (c : Dev nD) (t : Fin cfg0.N) : (dats m 0 c).after 4 t = QB (grid0.coords t) (iblk m c 0 t) (iblk m c 1 t) (iblk m c 2 t) (iblk m c 3 t) := by dsimp only [dats]
/-- After a point, the output buffer of exponent bytes. -/
theorem after0_5 (c : Dev nD) (t : Fin cfg0.N) : (dats m 0 c).after 5 t = EB (grid0.coords t) (iblk m c 0 t) (iblk m c 1 t) (iblk m c 2 t) (iblk m c 3 t) := by dsimp only [dats]

/-- Before a point, the scales' buffer holds the array. -/
theorem before0_0 (c : Dev nD) (t : Fin cfg0.N) (d) : (dats m 0 c).before 0 t d = iblk m c 0 t :=
  before0_0_of m (dats m 0 c) (A_eq m c 0) (after0_0 m c) t d
/-- Before a point, the codes' buffer holds its block. -/
theorem before0_1 (c : Dev nD) (t : Fin cfg0.N) (d) : (dats m 0 c).before 1 t d = iblk m c 1 t :=
  before0_1_of m (dats m 0 c) (A_eq m c 1) (after0_1 m c) t d
/-- Before a point, A's buffer holds its block. -/
theorem before0_2 (c : Dev nD) (t : Fin cfg0.N) (d) : (dats m 0 c).before 2 t d = iblk m c 2 t :=
  before0_2_of m (dats m 0 c) (A_eq m c 2) (after0_2 m c) t d
/-- Before a point, B's buffer holds its block. -/
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  rw [show scA m c t.val t.isLt = AT (iblk m c 2 t) from rfl]
  have hN : t.val < 112 := lt_of_lt_of_eq t.isLt (show cfg0.N = 112 from N_0)
  by_cases h0 : t.val % 56 = 0
  · by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ ((hcond0_0 t).mpr h0) (iblk m c 0 t) (iblk m c 1 t) (iblk m c 2 t) (iblk m c 3 t) (E := Set.univ))
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ ((hcond0_0 t).mpr h0) (iblk m c 0 t) (iblk m c 1 t) (iblk m c 2 t) (iblk m c 3 t) (E := Set.univ))
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases hz : t.val = 0
    · exfalso; omega
    · rw [PhiS_castSucc m c t, PhiS_pos m c _ _ hz, scA_prev m c t h0]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ _ _ (fun h => h0 ((hcond0_0 t).mp h)) (iblk m c 0 t) (iblk m c 1 t) (iblk m c 2 t) (iblk m c 3 t) (E := Set.univ))
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5

/-- The program the point runs is the kernel body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch state the region enters with. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- Past the first point, the scratch contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The scratch state the region leaves with. -/
theorem hout (c : Dev nD) : (dats m 0 c).Φ (Fin.last cfg0.N) ⊢ Pipeline.ΦA spec0 c :=
  Phi_out m c _ (by rw [Fin.val_last]; have : cfg0.N = 112 := N_0; omega)

set_option backward.isDefEq.respectTransparency.types false in
/-- The launch: every array at what its windows' write-backs leave, every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, each array holding what the points wrote. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Exponent.lean ====
/- The shared exponent of a group, at the ideal values: the kernel's binary search for the exponent field and the
   reference's count of the powers of two reached are two readings of one number, the number of thresholds
   `2 ^ (c - 127)`, `c = 1 .. 255`, that the value reaches. -/
module

public import Idealize.ShloMosaic.PureOps.Ideal.Laws
public import Idealize.ShloMosaic.Lib.WordSum

@[expose] public section

noncomputable section

namespace Cert.Exponent

open Idealize.ShloMosaic

/-! ## The thresholds -/

/-- The float whose bits are the word `c` shifted into the exponent field. -/
def ofField (c : BitVec 32) : EReal := Ideal.ofBits .f32 (IntOp.shli .vector c 23#32)

/-- The three fields of such a float: sign 0, exponent `c`, fraction 0. -/
theorem fields : ∀ c : Fin 256,
    (IntOp.shli .vector (BitVec.ofNat 32 c.val) 23#32).extractLsb' 31 1 = 0#1
      ∧ ((IntOp.shli .vector (BitVec.ofNat 32 c.val) 23#32).extractLsb' 23 8).toNat = c.val
      ∧ ((IntOp.shli .vector (BitVec.ofNat 32 c.val) 23#32).extractLsb' 0 23).toNat = 0 := by
  decide +kernel

/-- A positive float with an empty fraction, neither zero nor infinite, is a power of two. -/
theorem ieee_pow (b : BitVec 32) (c : ℕ) (e0 : b.extractLsb' 31 1 = 0#1) (e1 : (b.extractLsb' 23 8).toNat = c)
    (e2 : (b.extractLsb' 0 23).toNat = 0) (h0 : 1 ≤ c) (h1 : c ≤ 254) :
    Ideal.ieee 8 23 b = (((2 : ℝ) ^ ((c : ℤ) - 127) : ℝ) : EReal) := by
  have h2 : (2 : ℝ) ^ (23 : ℕ) * (2 : ℝ) ^ ((c : ℤ) - 127 - 23) = (2 : ℝ) ^ ((c : ℤ) - 127) := by
    rw [← zpow_natCast, ← zpow_add₀ (by norm_num : (2 : ℝ) ≠ 0)]
    congr 1
    push_cast
    ring
  have h3 : (2 : ℝ) ^ (23 : ℕ) = 8388608 := by norm_num
  rw [h3] at h2
  have n1 : c ≠ 255 := by omega
  have n2 : c ≠ 0 := by omega
  simp [Ideal.ieee, e0, e1, e2, n1, n2, -EReal.coe_mul, h2]

/-- The positive infinity's fields. -/
theorem ieee_top (b : BitVec 32) (e0 : b.extractLsb' 31 1 = 0#1) (e1 : (b.extractLsb' 23 8).toNat = 255)
    (e2 : (b.extractLsb' 0 23).toNat = 0) : Ideal.ieee 8 23 b = ⊤ := by
  simp [Ideal.ieee, e0, e1, e2]

/-- An exponent field between 1 and 254 stands for a power of two. -/
theorem ofField_coe (c : ℕ) (h0 : 1 ≤ c) (h1 : c ≤ 254) :
    ofField (BitVec.ofNat 32 c) = (((2 : ℝ) ^ ((c : ℤ) - 127) : ℝ) : EReal) := by
  obtain ⟨e0, e1, e2⟩ := fields ⟨c, by omega⟩
  exact ieee_pow _ c e0 e1 e2 h0 h1

/-- The exponent field of all ones stands for infinity. -/
theorem ofField_top : ofField (BitVec.ofNat 32 255) = ⊤ := by
  obtain ⟨e0, e1, e2⟩ := fields ⟨255, by omega⟩
  exact ieee_top _ e0 e1 e2

/-- The thresholds increase. -/
theorem ofField_mono (c d : ℕ) (h0 : 1 ≤ c) (h : c ≤ d) (h1 : d ≤ 255) :
    ofField (BitVec.ofNat 32 c) ≤ ofField (BitVec.ofNat 32 d) := by
  rcases Nat.lt_or_ge d 255 with hd | hd
  · rw [ofField_coe c h0 (by omega), ofField_coe d (by omega) (by omega)]
    exact EReal.coe_le_coe_iff.2 (zpow_le_zpow_right₀ (by norm_num) (by omega))
  · obtain rfl : d = 255 := by omega
    rw [ofField_top]
    exact le_top

/-- The number of thresholds `x` reaches. -/
def reached (x : EReal) : ℕ :=
  Nat.findGreatest (fun c => ofField (BitVec.ofNat 32 c) ≤ x) 255

/-- There are 255 thresholds. -/
theorem reached_le (x : EReal) : reached x ≤ 255 := Nat.findGreatest_le 255

/-- `x` reaches exactly the thresholds up to that number. -/
theorem ofField_le_iff (x : EReal) (c : ℕ) (h0 : 1 ≤ c) (h1 : c ≤ 255) :
    ofField (BitVec.ofNat 32 c) ≤ x ↔ c ≤ reached x := by
  constructor
  · intro h
    exact Nat.le_findGreatest h1 h
  · intro h
    have hne : reached x ≠ 0 := by omega
    have hp : ofField (BitVec.ofNat 32 (reached x)) ≤ x := Nat.findGreatest_of_ne_zero rfl hne
    exact (ofField_mono c (reached x) h0 h (reached_le x)).trans hp

/-! ## The kernel's search -/

/-- One step of the search: the exponent field raised by `k` where `x` reaches that threshold. -/
def step (x : EReal) (k t : BitVec 32) : BitVec 32 :=
  Scalar.select (Ideal.cmp .oge x (Ideal.ofBits .f32 (IntOp.shli .vector (IntOp.addi t k) 23#32))) (IntOp.addi t k) t

/-- The comparison "at least", as a bit. -/
theorem cmp_oge (x y : EReal) : (Ideal.cmp .oge x y = 1) ↔ y ≤ x := by
  unfold Ideal.cmp
  by_cases h : y ≤ x <;> simp [h]

/-- The comparison "less than", as a bit. -/
theorem cmp_olt (x y : EReal) : (Ideal.cmp .olt x y = 1) ↔ x < y := by
  unfold Ideal.cmp
  by_cases h : x < y <;> simp [h]

/-- A step takes the field from the number reached rounded down to a multiple of `2 * k` to the number rounded down to a
    multiple of `k`. -/
theorem step_toNat (x : EReal) (k t : BitVec 32) (hk : 1 ≤ k.toNat) (h255 : t.toNat + k.toNat ≤ 255) :
    (step x k t).toNat = if t.toNat + k.toNat ≤ reached x then t.toNat + k.toNat else t.toNat := by
  have hc : (IntOp.addi t k).toNat = t.toNat + k.toNat := by
    show (t + k).toNat = _
    rw [BitVec.toNat_add]
    omega
  have hb : IntOp.addi t k = BitVec.ofNat 32 (t.toNat + k.toNat) := by
    rw [← hc, BitVec.ofNat_toNat, BitVec.setWidth_eq]
  have hi := ofField_le_iff x (t.toNat + k.toNat) (by omega) h255
  show (if Ideal.cmp .oge x (ofField (IntOp.addi t k)) = 1 then IntOp.addi t k else t).toNat = _
  by_cases h : t.toNat + k.toNat ≤ reached x
  · rw [if_pos h, if_pos ((cmp_oge _ _).2 ((congrArg ofField hb).trans_le (hi.2 h))), hc]
  · rw [if_neg h, if_neg (fun hh => h (hi.1 ((congrArg ofField hb).symm.trans_le ((cmp_oge _ _).1 hh))))]

/-- The search, from the top bit of the field down. -/
def search (x : EReal) : BitVec 32 :=
  step x 1#32 (step x 2#32 (step x 4#32 (step x 8#32 (step x 16#32 (step x 32#32 (step x 64#32 (step x 128#32 0#32)))))))

/-- The search finds the number of thresholds reached. -/
theorem search_eq (x : EReal) : search x = BitVec.ofNat 32 (reached x) := by
  have hN := reached_le x
  unfold search
  generalize h7 : step x 128#32 0#32 = t7
  have e7 := step_toNat x 128#32 0#32 (by decide) (by decide)
  rw [h7] at e7
  have k7 : t7.toNat = 128 * (reached x / 128) := by
    rw [e7]; simp only [BitVec.toNat_ofNat]; split <;> omega
  generalize h6 : step x 64#32 t7 = t6
  have e6 := step_toNat x 64#32 t7 (by decide) (by simp only [BitVec.toNat_ofNat]; omega)
  rw [h6] at e6
  have k6 : t6.toNat = 64 * (reached x / 64) := by
    rw [e6]; simp only [BitVec.toNat_ofNat]; split <;> omega
  generalize h5 : step x 32#32 t6 = t5
  have e5 := step_toNat x 32#32 t6 (by decide) (by simp only [BitVec.toNat_ofNat]; omega)
  rw [h5] at e5
  have k5 : t5.toNat = 32 * (reached x / 32) := by
    rw [e5]; simp only [BitVec.toNat_ofNat]; split <;> omega
  generalize h4 : step x 16#32 t5 = t4
  have e4 := step_toNat x 16#32 t5 (by decide) (by simp only [BitVec.toNat_ofNat]; omega)
  rw [h4] at e4
  have k4 : t4.toNat = 16 * (reached x / 16) := by
    rw [e4]; simp only [BitVec.toNat_ofNat]; split <;> omega
  generalize h3 : step x 8#32 t4 = t3
  have e3 := step_toNat x 8#32 t4 (by decide) (by simp only [BitVec.toNat_ofNat]; omega)
  rw [h3] at e3
  have k3 : t3.toNat = 8 * (reached x / 8) := by
    rw [e3]; simp only [BitVec.toNat_ofNat]; split <;> omega
  generalize h2 : step x 4#32 t3 = t2
  have e2 := step_toNat x 4#32 t3 (by decide) (by simp only [BitVec.toNat_ofNat]; omega)
  rw [h2] at e2
  have k2 : t2.toNat = 4 * (reached x / 4) := by
    rw [e2]; simp only [BitVec.toNat_ofNat]; split <;> omega
  generalize h1 : step x 2#32 t2 = t1
  have e1 := step_toNat x 2#32 t2 (by decide) (by simp only [BitVec.toNat_ofNat]; omega)
  rw [h1] at e1
  have k1 : t1.toNat = 2 * (reached x / 2) := by
    rw [e1]; simp only [BitVec.toNat_ofNat]; split <;> omega
  have e0 := step_toNat x 1#32 t1 (by decide) (by simp only [BitVec.toNat_ofNat]; omega)
  apply BitVec.eq_of_toNat_eq
  rw [e0]
  simp only [BitVec.toNat_ofNat]
  split <;> omega

/-- The kernel's exponent field of `x`, plus one less than the bias's: the search's result, 126 where it is out of the
    normal range. -/
def field (x : EReal) : BitVec 32 :=
  Scalar.select
    (IntOp.ori (IntOp.cmpi .eq (Scalar.select (Ideal.cmp .olt x (Ideal.ofBits .f32 0x7E800000#32)) (search x) 255#32) 0#32)
      (IntOp.cmpi .eq (Scalar.select (Ideal.cmp .olt x (Ideal.ofBits .f32 0x7E800000#32)) (search x) 255#32) 255#32))
    126#32 (Scalar.select (Ideal.cmp .olt x (Ideal.ofBits .f32 0x7E800000#32)) (search x) 255#32)

/-- The field, as a function of the number of thresholds reached. -/
def fieldOf (n : ℕ) : ℕ := if n = 0 ∨ 253 ≤ n then 126 else n

/-- The constant 2 ^ 126 is the threshold of the field 253. -/
theorem bits_253 : Ideal.ofBits .f32 0x7E800000#32 = ofField (BitVec.ofNat 32 253) := by
  unfold ofField
  rw [show IntOp.shli .vector (BitVec.ofNat 32 253) 23#32 = 0x7E800000#32 from by decide]

/-- The kernel's choices, decided for every number of thresholds reached. -/
theorem field_select : ∀ n : Fin 256,
    (let t : BitVec 32 := if n.val < 253 then BitVec.ofNat 32 n.val else 255#32
     Scalar.select (IntOp.ori (IntOp.cmpi .eq t 0#32) (IntOp.cmpi .eq t 255#32)) 126#32 t) = BitVec.ofNat 32 (fieldOf n.val) := by
  decide +kernel

/-- The kernel's field of a value, by the number of thresholds it reaches. -/
theorem field_eq (x : EReal) : field x = BitVec.ofNat 32 (fieldOf (reached x)) := by
  have hN := reached_le x
  have hi := ofField_le_iff x 253 (by omega) (by omega)
  have ht : Scalar.select (Ideal.cmp .olt x (Ideal.ofBits .f32 0x7E800000#32)) (search x) 255#32
      = if reached x < 253 then BitVec.ofNat 32 (reached x) else 255#32 := by
    unfold Scalar.select
    rw [search_eq, bits_253]
    by_cases h : reached x < 253
    · rw [if_pos h, if_pos ((cmp_olt _ _).2 (lt_of_not_ge fun hh => by have := hi.1 hh; omega))]
    · rw [if_neg h, if_neg fun hh => absurd (hi.2 (by omega)) (not_le_of_gt ((cmp_olt _ _).1 hh))]
  unfold field
  rw [ht]
  exact field_select ⟨reached x, by omega⟩

/-! ## The reference's count -/

/-- The reference's exponent, of its count of the powers of two reached. -/
def refExp (x : EReal) (n : BitVec 32) : BitVec 32 :=
  Scalar.select (IntOp.ori (IntOp.cmpi .eq n 0#32) (Ideal.cmp .oge x (Ideal.ofBits .f32 0x7E800000#32))) 0#32 (IntOp.subi n 126#32)

/-- The reference's choices, decided for every number of thresholds reached. -/
theorem refExp_select : ∀ n : Fin 256,
    Scalar.select (IntOp.ori (IntOp.cmpi .eq (BitVec.ofNat 32 (min n.val 252)) 0#32) (BitVec.ofBool (decide (253 ≤ n.val)))) 0#32
        (IntOp.subi (BitVec.ofNat 32 (min n.val 252)) 126#32)
      = IntOp.subi (BitVec.ofNat 32 (fieldOf n.val)) 126#32 := by
  decide +kernel

/-- The reference's exponent is the kernel's field less 126. -/
theorem refExp_eq (x : EReal) : refExp x (BitVec.ofNat 32 (min (reached x) 252)) = IntOp.subi (field x) 126#32 := by
  have hN := reached_le x
  have hi := ofField_le_iff x 253 (by omega) (by omega)
  have hc : Ideal.cmp .oge x (Ideal.ofBits .f32 0x7E800000#32) = BitVec.ofBool (decide (253 ≤ reached x)) := by
    unfold Ideal.cmp
    rw [bits_253]
    exact congrArg BitVec.ofBool (decide_eq_decide.2 hi)
  rw [field_eq]
  unfold refExp
  rw [hc]
  exact refExp_select ⟨reached x, by omega⟩

/-- Zero reaches no threshold, so its exponent is 0. -/
theorem field_zero : IntOp.subi (field 0) 126#32 = 0#32 := by
  have hr : reached 0 = 0 := by
    by_contra h
    have h1 := (ofField_le_iff 0 1 le_rfl (by omega)).2 (by omega)
    rw [ofField_coe 1 le_rfl (by omega)] at h1
    exact absurd h1 (not_le_of_gt (EReal.coe_pos.2 (by positivity)))
  rw [field_eq, hr]
  decide

/-- The reference's case of a group of zeros changes nothing: the exponent is 0 there already. -/
theorem guard_eq (a x : EReal) (h : a = 0 → x = 0) :
    Scalar.select (Ideal.cmp .oeq a (Ideal.ofBits .f32 0x00000000#32)) 0#32 (IntOp.subi (field x) 126#32) = IntOp.subi (field x) 126#32 := by
  rw [Ideal.ofBits_zero_f32]
  unfold Scalar.select
  by_cases ha : a = 0
  · rw [h ha, field_zero, ite_self]
  · refine if_neg fun hc => ha ?_
    by_contra
    unfold Ideal.cmp at hc
    simp [ha] at hc

/-- The power of two of the reference's `k`-th threshold is the kernel's of the field `k + 1`. -/
theorem exp2_threshold (k : ℕ) (hk : k < 252) :
    Ideal.exp2 (((IntOp.subi (BitVec.ofNat 32 k) 126#32).toInt : ℝ) : EReal) = ofField (BitVec.ofNat 32 (k + 1)) := by
  have hi : (IntOp.subi (BitVec.ofNat 32 k) 126#32).toInt = (k : ℤ) - 126 := by
    have : ∀ k : Fin 252, (IntOp.subi (BitVec.ofNat 32 k.val) 126#32).toInt = (k.val : ℤ) - 126 := by decide +kernel
    exact this ⟨k, hk⟩
  rw [hi, Ideal.exp2_coe, ofField_coe (k + 1) (by omega) (by omega)]
  congr 1
  show Real.rpow 2 _ = _
  rw [Real.rpow_eq_pow, Real.rpow_intCast]
  congr 1
  push_cast
  ring

/-- How many of the first 252 thresholds are reached, one word per threshold. -/
theorem sum_reached (x : EReal) :
    (∑ k : Fin 252, (Ideal.cmp .oge x (ofField (BitVec.ofNat 32 (k.val + 1)))).setWidth 32) = BitVec.ofNat 32 (min (reached x) 252) := by
  have hw : ∀ k : Fin 252, (Ideal.cmp .oge x (ofField (BitVec.ofNat 32 (k.val + 1)))).setWidth 32
      = (BitVec.ofBool (decide (k.val + 1 ≤ reached x))).setWidth 32 := fun k => by
    unfold Ideal.cmp
    exact congrArg (fun b => (BitVec.ofBool b).setWidth 32) (decide_eq_decide.2 (ofField_le_iff x (k.val + 1) (by omega) (by omega)))
  rw [Finset.sum_congr rfl fun k _ => hw k]
  have hv : ∀ k : Fin 252, ((BitVec.ofBool (decide (k.val + 1 ≤ reached x))).setWidth 32 : BitVec 32).toNat = if k.val < reached x then 1 else 0 := fun k => by
    by_cases h : k.val < reached x
    · rw [if_pos h, decide_eq_true (by omega)]; rfl
    · rw [if_neg h, decide_eq_false (by omega)]; rfl
  have hs : (∑ k : Fin 252, if k.val < reached x then 1 else 0) = min (reached x) 252 := by
    rw [Fin.sum_univ_eq_sum_range (fun k => if k < reached x then 1 else 0) 252, ← Finset.sum_filter, Finset.sum_const, smul_eq_mul, mul_one]
    rw [show (Finset.range 252).filter (fun k => k < reached x) = Finset.range (min (reached x) 252) from by
      ext k; simp only [Finset.mem_filter, Finset.mem_range]; omega, Finset.card_range]
  apply BitVec.eq_of_toNat_eq
  rw [WordSum.toNat_sum]
  · rw [Finset.sum_congr rfl fun k _ => hv k, hs, BitVec.toNat_ofNat]
    omega
  · rw [Finset.sum_congr rfl fun k _ => hv k, hs]
    omega

/-! ## What the two exponents give -/

/-- The field is that of a normal float, and so is that of its inverse. -/
theorem fieldOf_range (n : ℕ) (hn : n ≤ 255) : 1 ≤ fieldOf n ∧ fieldOf n ≤ 252 := by
  unfold fieldOf
  split <;> omega

/-- The scale the kernel multiplies by, written in the exponent field, is the reference's power of two. -/
theorem scale_eq (x : EReal) :
    Ideal.ofBits .f32 (IntOp.shli .vector (IntOp.subi 253#32 (field x)) 23#32)
      = Ideal.exp2 (Ideal.ofBits .f32 0x00000000#32 - (((IntOp.subi (field x) 126#32).toInt : ℝ) : EReal)) := by
  obtain ⟨h0, h1⟩ := fieldOf_range (reached x) (reached_le x)
  rw [field_eq]
  generalize fieldOf (reached x) = n at h0 h1
  have hw : ∀ n : Fin 253, 1 ≤ n.val → IntOp.subi 253#32 (BitVec.ofNat 32 n.val) = BitVec.ofNat 32 (253 - n.val)
      ∧ (IntOp.subi (BitVec.ofNat 32 n.val) 126#32).toInt = (n.val : ℤ) - 126 := by decide +kernel
  obtain ⟨e1, e2⟩ := hw ⟨n, by omega⟩ h0
  dsimp only at e1 e2
  rw [e1, e2]
  show ofField (BitVec.ofNat 32 (253 - n)) = _
  rw [ofField_coe (253 - n) (by omega) (by omega), Ideal.ofBits_zero_f32, zero_sub, ← EReal.coe_neg, Ideal.exp2_coe]
  congr 1
  show _ = Real.rpow 2 _
  rw [Real.rpow_eq_pow, ← Int.cast_neg, Real.rpow_intCast]
  congr 1
  push_cast [Nat.cast_sub (show n ≤ 253 by omega)]
  ring

/-- The biased exponents are one byte. -/
theorem byte_eq (x : EReal) :
    (IntOp.addi (IntOp.subi (field x) 126#32) 127#32).setWidth 8 = (IntOp.addi (field x) 1#32).setWidth 8 := by
  obtain ⟨h0, h1⟩ := fieldOf_range (reached x) (reached_le x)
  rw [field_eq]
  generalize fieldOf (reached x) = n at h0 h1
  have hw : ∀ n : Fin 253, (IntOp.addi (IntOp.subi (BitVec.ofNat 32 n.val) 126#32) 127#32).setWidth 8 = (IntOp.addi (BitVec.ofNat 32 n.val) 1#32).setWidth 8 := by decide +kernel
  exact hw ⟨n, by omega⟩

end Cert.Exponent

end
-- ==== Proof.KernelTile.lean ====
/- One 256 x 128 tile of the kernel at the ideal values: the merged weights, the groups' scales and exponents, and the
   quantized codes, each read at an index. -/
module

public import proofs.«01_k».proof.Proof.KernelLoops
public import proofs.«01_k».proof.Proof.Exponent
public import Idealize.ShloMosaic.Lib.MatmulPlain
public import Idealize.ShloMosaic.Lib.Pointwise.Reshape

@[expose] public section

set_option maxRecDepth 16384

noncomputable section

namespace Cert.KernelIdeal.Hand

open Cert.KernelIdeal Cert.KernelIdeal.Gen
open Idealize.ShloMosaic hiding ix1 ix2 ix3 ix4 ix5
open Idealize.ShloMosaic.TcCoe Idealize.ShloMosaic.ValueIdx

/-! ## The identity block -/

/-- The identity block's entries. -/
theorem eye_apply (k l : Fin 128) : (k0_pay3 (F := Ideal)) (ix2 k l) = if k = l then (1 : EReal) else 0 := by
  have h : (k0_pay3 (F := Ideal)) (ix2 k l)
      = (((((IntOp.cmpi .eq (iota .tc S128x128 32 [0] iota_S128x128_d0_w32 (ix2 k l)) (iota .tc S128x128 32 [1] iota_S128x128_d1_w32 (ix2 k l))).setWidth 32 : BitVec 32).toInt : ℝ)) : EReal) := rfl
  rw [h, iota_single_apply, iota_single_apply]
  show (((((BitVec.ofBool (BitVec.ofNat 32 k.val == BitVec.ofNat 32 l.val)).setWidth 32 : BitVec 32).toInt : ℝ)) : EReal) = _
  have hk := k.isLt
  have hl := l.isLt
  by_cases hkl : k = l
  · subst hkl
    rw [if_pos rfl, beq_self_eq_true, show ((BitVec.ofBool true).setWidth 32 : BitVec 32).toInt = 1 from by decide]
    norm_num
  · rw [if_neg hkl, beq_eq_false_iff_ne.2 (fun e => hkl (Fin.ext (by
      have := congrArg BitVec.toNat e
      simp only [BitVec.toNat_ofNat] at this
      omega))), show ((BitVec.ofBool false).setWidth 32 : BitVec 32).toInt = 0 from by decide]
    norm_num

section Tile

variable (w : Vec Ideal S1x256x128 .fp8e4m3) (s0 s1 : Elt Ideal .f32) (b : Vec Ideal S16x256 .bf16) (a : Vec Ideal S128x16 .bf16)

/-- The scale of row `r`: one for each half of the 256 rows. -/
def rowScale (r : Fin 256) : EReal := if r.val < 128 then s0 else s1

/-- The merged weight at column `k`, row `r` of the tile: the code times its row's scale, plus the low-rank term. -/
def tileX (k : Fin 128) (r : Fin 256) : EReal := w (ix3 0 r k) * rowScale s0 s1 r + ∑ q : Fin 16, a (ix2 k q) * b (ix2 q r)

/-- The dequantized codes, transposed. -/
def deq : FVec Ideal S128x256 .bf16 :=
  mulf (extf .bf16 (transpose S128x256 [1, 0] (shapeCast S256x128 w shapeCasts_S1x256x128_S256x128) transposes_S256x128_p1_0_S128x256 : FVec Ideal S128x256 .fp8e4m3) bitsLt_fp8e4m3_bf16)
    (broadcastTo S128x256 (truncf .bf16 (concatenate S1x256 1 [⟨S1x128, broadcast S1x128 s0⟩, ⟨S1x128, broadcast S1x128 s1⟩] concatenates_S1x128_S1x128_S1x256_d1 : FVec Ideal S1x256 .f32) bitsLt_bf16_f32 : FVec Ideal S1x256 .bf16) broadcasts_S1x256_S128x256)

/-- The row of scales of a tile. -/
theorem scales_apply (r : Fin 256) :
    (concatenate S1x256 1 [⟨S1x128, broadcast S1x128 s0⟩, ⟨S1x128, broadcast S1x128 s1⟩] concatenates_S1x128_S1x128_S1x256_d1 : FVec Ideal S1x256 .f32) (ix2 0 r) = rowScale s0 s1 r := by
  unfold rowScale
  have hr := r.isLt
  by_cases h : r.val < 128
  · rw [if_pos h]
    refine concatenate_pair_apply_left (t := S1x256) (s₁ := S1x128) (s₂ := S1x128) 1 (broadcast S1x128 s0) (broadcast S1x128 s1) _ (ix2 0 r) rfl (ix2 0 ⟨r.val, h⟩) fun b => ?_
    match b with
    | ⟨0, _⟩ => rfl
    | ⟨1, _⟩ => rfl
  · rw [if_neg h]
    refine concatenate_pair_apply_right (t := S1x256) (s₁ := S1x128) (s₂ := S1x128) 1 (broadcast S1x128 s0) (broadcast S1x128 s1) _ (ix2 0 r) rfl rfl (ix2 0 ⟨r.val - 128, by omega⟩) (fun b hb => ?_) ?_
    · match b with
      | ⟨0, _⟩ => rfl
      | ⟨1, _⟩ => exact absurd rfl hb
    · show r.val - 128 + 128 = r.val; omega

/-- A tile's dequantized codes. -/
theorem deq_apply (k : Fin 128) (r : Fin 256) : deq w s0 s1 (ix2 k r) = w (ix3 0 r k) * rowScale s0 s1 r := by
  show (transpose S128x256 [1, 0] (shapeCast S256x128 w shapeCasts_S1x256x128_S256x128) transposes_S256x128_p1_0_S128x256 (ix2 k r) : EReal)
    * (broadcastTo S128x256 (concatenate S1x256 1 [⟨S1x128, broadcast S1x128 s0⟩, ⟨S1x128, broadcast S1x128 s1⟩] concatenates_S1x128_S1x128_S1x256_d1 : FVec Ideal S1x256 .f32) broadcasts_S1x256_S128x256 (ix2 k r) : EReal) = _
  rw [transpose_apply _ _ _ (ix2 k r) (ix2 r k) (fun b => by match b with | ⟨0, _⟩ => rfl | ⟨1, _⟩ => rfl),
    shapeCast_apply _ _ (ix2 r k) (ix3 0 r k) (by
      rw [rowMajor_val3 _ 32768 128 rfl rfl, rowMajor_val2 _ 128 rfl]
      show 0 * 32768 + r.val * 128 + k.val = r.val * 128 + k.val
      omega),
    broadcastTo_apply _ _ (ix2 k r) (ix2 0 r) (fun b => by match b with | ⟨0, _⟩ => rfl | ⟨1, _⟩ => rfl),
    scales_apply]

/-- The product's right operand: the dequantized codes above the transposed B. -/
def rhsT : FVec Ideal S144x256 .bf16 := concatenate S144x256 0 [⟨S128x256, deq w s0 s1⟩, ⟨S16x256, b⟩] concatenates_S128x256_S16x256_S144x256_d0
/-- Its left operand: the identity beside the transposed A. -/
def lhsT : FVec Ideal S128x144 .bf16 := concatenate S128x144 1 [⟨S128x128, (k0_pay3 (F := Ideal))⟩, ⟨S128x16, a⟩] concatenates_S128x128_S128x16_S128x144_d1

/-- The right operand's first 128 rows are the dequantized codes. -/
theorem rhsT_left (l : Fin 128) (r : Fin 256) : rhsT w s0 s1 b (ix2 (Fin.castAdd 16 l) r) = deq w s0 s1 (ix2 l r) := by
  refine concatenate_pair_apply_left (t := S144x256) (s₁ := S128x256) (s₂ := S16x256) 0 (deq w s0 s1) b _ (ix2 (Fin.castAdd 16 l) r) rfl (ix2 l r) fun d => ?_
  match d with
  | ⟨0, _⟩ => rfl
  | ⟨1, _⟩ => rfl

/-- The right operand's last 16 rows are the transposed B. -/
theorem rhsT_right (q : Fin 16) (r : Fin 256) : rhsT w s0 s1 b (ix2 (Fin.natAdd 128 q) r) = b (ix2 q r) := by
  refine concatenate_pair_apply_right (t := S144x256) (s₁ := S128x256) (s₂ := S16x256) 0 (deq w s0 s1) b _ (ix2 (Fin.natAdd 128 q) r) rfl rfl (ix2 q r) (fun d hd => ?_) ?_
  · match d with
    | ⟨0, _⟩ => exact absurd rfl hd
    | ⟨1, _⟩ => rfl
  · show q.val + 128 = 128 + q.val; omega

/-- The left operand's first 128 columns are the identity. -/
theorem lhsT_left (k l : Fin 128) : lhsT a (ix2 k (Fin.castAdd 16 l)) = (k0_pay3 (F := Ideal)) (ix2 k l) := by
  refine concatenate_pair_apply_left (t := S128x144) (s₁ := S128x128) (s₂ := S128x16) 1 (k0_pay3 (F := Ideal)) a _ (ix2 k (Fin.castAdd 16 l)) rfl (ix2 k l) fun d => ?_
  match d with
  | ⟨0, _⟩ => rfl
  | ⟨1, _⟩ => rfl

/-- The left operand's last 16 columns are the transposed A. -/
theorem lhsT_right (k : Fin 128) (q : Fin 16) : lhsT a (ix2 k (Fin.natAdd 128 q)) = a (ix2 k q) := by
  refine concatenate_pair_apply_right (t := S128x144) (s₁ := S128x128) (s₂ := S128x16) 1 (k0_pay3 (F := Ideal)) a _ (ix2 k (Fin.natAdd 128 q)) rfl rfl (ix2 k q) (fun d hd => ?_) ?_
  · match d with
    | ⟨0, _⟩ => rfl
    | ⟨1, _⟩ => exact absurd rfl hd
  · show q.val + 128 = 128 + q.val; omega

/-- The product of the two operands: the identity picks the dequantized code, the rest is the low-rank term. -/
theorem prod_apply (k : Fin 128) (r : Fin 256) :
    FloatOps.matmul dot_S128x144_S144x256_S128x256_1_0_0_1_n_n none (lhsT a) (rhsT w s0 s1 b) (constant S128x256 .f32 0x00000000#32) (ix2 k r)
      = tileX w s0 s1 b a k r := by
  have h := Ideal.matmul_plain_apply (M := 128) (K := 144) (N := 256) none (lhsT a) (rhsT w s0 s1 b) (constant S128x256 .f32 0x00000000#32) k r
  refine Eq.trans h ?_
  have hz : (constant (F := Ideal) S128x256 .f32 0x00000000#32) (ix2 k r) = (0 : EReal) := Ideal.ofBits_zero_f32
  rw [hz, zero_add, Fin.sum_univ_add (fun i : Fin (128 + 16) => lhsT a (ix2 k i) * rhsT w s0 s1 b (ix2 i r))]
  unfold tileX
  refine congrArg₂ (· + ·) ?_ (Finset.sum_congr rfl fun q _ => by rw [lhsT_right, rhsT_right])
  rw [Finset.sum_eq_single k]
  · rw [lhsT_left, rhsT_left, eye_apply, if_pos rfl, one_mul, deq_apply]
  · intro l _ hl
    rw [lhsT_left, eye_apply, if_neg (Ne.symm hl), zero_mul]
  · intro hk
    exact absurd (Finset.mem_univ k) hk

/-- The merged weights in groups of 32 columns. -/
theorem pay6_apply (g : Fin 4) (l : Fin 32) (r : Fin 256) :
    k0_pay6 k0_pay3 w s0 s1 b a (ix3 g l r) = tileX w s0 s1 b a ⟨32 * g.val + l.val, by omega⟩ r := by
  refine Eq.trans (shapeCast_apply (FloatOps.matmul dot_S128x144_S144x256_S128x256_1_0_0_1_n_n none (lhsT a) (rhsT w s0 s1 b) (constant S128x256 .f32 0x00000000#32)) shapeCasts_S128x256_S4x32x256 (ix3 g l r) (ix2 ⟨32 * g.val + l.val, by omega⟩ r) ?_) (prod_apply w s0 s1 b a _ r)
  rw [rowMajor_val3 _ 8192 256 rfl rfl, rowMajor_val2 _ 256 rfl]
  show (32 * g.val + l.val) * 256 + r.val = g.val * 8192 + l.val * 256 + r.val
  omega

/-- The group's scale: the largest magnitude of its 32 merged weights, over 448. -/
def grpA (g : Fin 4) (r : Fin 256) : EReal :=
  (Finset.univ : Finset (Fin 32)).fold max (Ideal.ofBits .f32 0xFF800000#32)
      (fun l => max (tileX w s0 s1 b a ⟨32 * g.val + l.val, by omega⟩ r) (-tileX w s0 s1 b a ⟨32 * g.val + l.val, by omega⟩ r))
    * Ideal.ofBits .f32 0x3B124925#32

/-- A tile's group scales. -/
theorem pay7_apply (g : Fin 4) (r : Fin 256) : k0_pay7 k0_pay3 w s0 s1 b a (ix3 g 0 r) = grpA w s0 s1 b a g r := by
  have h : k0_pay7 k0_pay3 w s0 s1 b a (ix3 g 0 r)
      = (shapeCast S4x1x256 (multiReduction .maximumf [1] S4x256 (absf (k0_pay6 k0_pay3 w s0 s1 b a)) 0xFF800000#32 reduces_S4x32x256_S4x256 (.inl rfl) rfl) shapeCasts_S4x256_S4x1x256 (ix3 g 0 r) : EReal)
        * Ideal.ofBits .f32 0x3B124925#32 := rfl
  rw [h]
  unfold grpA
  refine congrArg (fun z : EReal => z * Ideal.ofBits .f32 0x3B124925#32) ?_
  have hm := Ideal.multiReduction_maximumf_single (φ := .f32) (absf (k0_pay6 k0_pay3 w s0 s1 b a)) 0xFF800000#32 reduces_S4x32x256_S4x256 (.inl rfl) rfl (ix2 g r)
  have hs := shapeCast_apply (multiReduction .maximumf [1] S4x256 (absf (k0_pay6 k0_pay3 w s0 s1 b a)) 0xFF800000#32 reduces_S4x32x256_S4x256 (.inl rfl) rfl) shapeCasts_S4x256_S4x1x256 (ix3 g 0 r) (ix2 g r) (by
    rw [rowMajor_val3 _ 256 256 rfl rfl, rowMajor_val2 _ 256 rfl]
    show g.val * 256 + r.val = g.val * 256 + 0 * 256 + r.val
    omega)
  refine (hs.trans hm).trans ?_
  refine congrArg (fun f => (Finset.univ : Finset (Fin 32)).fold max (Ideal.ofBits .f32 0xFF800000#32) f) (funext fun l : Fin 32 => ?_)
  have hl : reduces_S4x32x256_S4x256.lift (ix2 g r) l = ix3 g l r := funext fun d => by
    match d with | ⟨0, _⟩ => rfl | ⟨1, _⟩ => rfl | ⟨2, _⟩ => rfl
  show FloatOps.absf (k0_pay6 k0_pay3 w s0 s1 b a (reduces_S4x32x256_S4x256.lift (ix2 g r) l)) = _
  rw [hl, pay6_apply]
  rfl

/-! ## The exponent -/

/-- One step of the search on a whole group vector. -/
def vstep (x : FVec Ideal S4x1x256 .f32) (k : BitVec 32) (t : IVec S4x1x256 32) : IVec S4x1x256 32 :=
  select (cmpf .oge x (bitcastToFloat .f32 (shli (addi t (broadcast S4x1x256 k)) (broadcast S4x1x256 23#32)))) (addi t (broadcast S4x1x256 k)) t

/-- One step of the search, entry by entry. -/
theorem vstep_apply (x : FVec Ideal S4x1x256 .f32) (k : BitVec 32) (t : IVec S4x1x256 32) (j : S4x1x256.Idx) :
    vstep x k t j = Exponent.step (x j) k (t j) := rfl

/-- The kernel's search over a vector: the first seven of its eight steps. -/
theorem pay10_eq (x : FVec Ideal S4x1x256 .f32) :
    k0_pay10 x k0_pay8 k0_pay9 = vstep x 2#32 (vstep x 4#32 (vstep x 8#32 (vstep x 16#32 (vstep x 32#32 (vstep x 64#32 (vstep x 128#32 (broadcast S4x1x256 0#32))))))) := rfl

/-- The kernel's choice of 126 outside the normal range, entry by entry. -/
theorem pay11_eq (x : FVec Ideal S4x1x256 .f32) (t : IVec S4x1x256 32) (j : S4x1x256.Idx) :
    k0_pay11 x t j = Scalar.select
      (IntOp.ori (IntOp.cmpi .eq (Scalar.select (Ideal.cmp .olt (x j) (Ideal.ofBits .f32 0x7E800000#32)) (vstep x 1#32 t j) 255#32) 0#32)
        (IntOp.cmpi .eq (Scalar.select (Ideal.cmp .olt (x j) (Ideal.ofBits .f32 0x7E800000#32)) (vstep x 1#32 t j) 255#32) 255#32))
      126#32 (Scalar.select (Ideal.cmp .olt (x j) (Ideal.ofBits .f32 0x7E800000#32)) (vstep x 1#32 t j) 255#32) := rfl

/-- The kernel's exponent field, at an index. -/
theorem pay11_apply (x : FVec Ideal S4x1x256 .f32) (j : S4x1x256.Idx) :
    k0_pay11 x (k0_pay10 x k0_pay8 k0_pay9) j = Exponent.field (x j) := by
  rw [pay11_eq, pay10_eq]
  simp only [vstep_apply]
  rfl

/-! ## The tile's results -/

/-- The tile's code at row `r`, column `k`. -/
theorem qpay_apply (r : Fin 256) (k : Fin 128) :
    qpay w s0 s1 b a (ix3 0 r k)
      = min (max (tileX w s0 s1 b a k r
            * Ideal.ofBits .f32 (IntOp.shli .vector (IntOp.subi 253#32 (Exponent.field (grpA w s0 s1 b a ⟨k.val / 32, by omega⟩ r))) 23#32))
          (Ideal.ofBits .f32 0xC3E00000#32)) (Ideal.ofBits .f32 0x43E00000#32) := by
  have hk := k.isLt
  generalize hx : k0_pay7 k0_pay3 w s0 s1 b a = x
  have hq : qpay w s0 s1 b a (ix3 0 r k)
      = shapeCast S1x256x128 (transpose S256x128 [1, 0] (shapeCast S128x256 (fun j : S4x32x256.Idx => (min (max (k0_pay6 k0_pay3 w s0 s1 b a j
            * broadcastTo S4x32x256 (bitcastToFloat (F := Ideal) .f32 (shli (subi (broadcast S4x1x256 253#32) (k0_pay11 x (k0_pay10 x k0_pay8 k0_pay9))) (broadcast S4x1x256 23#32))) broadcasts_S4x1x256_S4x32x256 j)
            (Ideal.ofBits .f32 0xC3E00000#32)) (Ideal.ofBits .f32 0x43E00000#32) : EReal)) shapeCasts_S4x32x256_S128x256) transposes_S128x256_p1_0_S256x128) shapeCasts_S256x128_S1x256x128 (ix3 0 r k) := by
    rw [← hx]
    rfl
  rw [hq, shapeCast_apply _ _ (ix3 0 r k) (ix2 r k) (by
      rw [rowMajor_val3 _ 32768 128 rfl rfl, rowMajor_val2 _ 128 rfl]
      show r.val * 128 + k.val = 0 * 32768 + r.val * 128 + k.val
      omega),
    transpose_apply _ _ _ (ix2 r k) (ix2 k r) (fun b => by match b with | ⟨0, _⟩ => rfl | ⟨1, _⟩ => rfl),
    shapeCast_apply _ _ (ix2 k r) (ix3 ⟨k.val / 32, by omega⟩ ⟨k.val % 32, by omega⟩ r) (by
      rw [rowMajor_val3 _ 8192 256 rfl rfl, rowMajor_val2 _ 256 rfl]
      show k.val / 32 * 8192 + k.val % 32 * 256 + r.val = k.val * 256 + r.val
      omega)]
  rw [broadcastTo_apply _ _ (ix3 ⟨k.val / 32, by omega⟩ ⟨k.val % 32, by omega⟩ r) (ix3 ⟨k.val / 32, by omega⟩ 0 r) (fun b => by
      match b with | ⟨0, _⟩ => rfl | ⟨1, _⟩ => rfl | ⟨2, _⟩ => rfl), pay6_apply]
  have hkk : (⟨32 * (k.val / 32) + k.val % 32, by omega⟩ : Fin 128) = k := Fin.ext (Nat.div_add_mod k.val 32)
  have he : bitcastToFloat (F := Ideal) .f32 (shli (subi (broadcast S4x1x256 253#32) (k0_pay11 x (k0_pay10 x k0_pay8 k0_pay9))) (broadcast S4x1x256 23#32)) (ix3 ⟨k.val / 32, by omega⟩ 0 r)
      = Ideal.ofBits .f32 (IntOp.shli .vector (IntOp.subi 253#32 (Exponent.field (grpA w s0 s1 b a ⟨k.val / 32, by omega⟩ r))) 23#32) := by
    rw [← pay7_apply, hx, ← pay11_apply]
    rfl
  rw [he]
  simp only [hkk]

/-- The tile's exponent of group `g`, row `r`. -/
theorem epay_apply (g : Fin 4) (r : Fin 256) :
    epay w s0 s1 b a (ix2 g r) = IntOp.addi (Exponent.field (grpA w s0 s1 b a g r)) 1#32 := by
  generalize hx : k0_pay7 k0_pay3 w s0 s1 b a = x
  have hq : epay w s0 s1 b a (ix2 g r)
      = shapeCast S4x256 (addi (k0_pay11 x (k0_pay10 x k0_pay8 k0_pay9)) (broadcast S4x1x256 1#32)) shapeCasts_S4x1x256_S4x256 (ix2 g r) := by
    rw [← hx]
    rfl
  rw [hq, shapeCast_apply _ _ (ix2 g r) (ix3 g 0 r) (by
      rw [rowMajor_val3 _ 256 256 rfl rfl, rowMajor_val2 _ 256 rfl]
      show g.val * 256 + 0 * 256 + r.val = g.val * 256 + r.val
      omega), ← pay7_apply, hx, ← pay11_apply]
  rfl

end Tile

end Cert.KernelIdeal.Hand

end
-- ==== Proof.Spec.lean ====
/- The mathematics both programs compute, index by index: the merged weights, each group's scale and exponent, and the
   quantized codes. -/
module

public import proofs.«01_k».proof.Proof.Exponent
public import Idealize.ShloMosaic.Lib.ValueIdxCore

@[expose] public section

noncomputable section

namespace Cert.Spec

open Idealize.ShloMosaic Idealize.ShloMosaic.ValueIdx

section

variable (w : (⟨3, ![2, 14336, 8192]⟩ : Shape).Idx → EReal) (s : (⟨3, ![2, 112, 64]⟩ : Shape).Idx → EReal)
  (la : (⟨3, ![2, 16, 8192]⟩ : Shape).Idx → EReal) (lb : (⟨3, ![2, 14336, 16]⟩ : Shape).Idx → EReal)

/-- The merged weight at row `R`, column `C` of matrix `b`: the dequantized code plus twice the low-rank product. -/
def merged (b : Fin 2) (R : Fin 14336) (C : Fin 8192) : EReal :=
  w (ix3 b R C) * s (ix3 b ⟨R.val / 128, by omega⟩ ⟨C.val / 128, by omega⟩)
    + Ideal.ofBits .f32 0x40000000#32 * ∑ q : Fin 16, lb (ix3 b R q) * la (ix3 b q C)

/-- The scale of group `g` of row `R`: the largest magnitude of its 32 merged weights, over 448. -/
def scale (b : Fin 2) (R : Fin 14336) (g : Fin 256) : EReal :=
  (Finset.univ : Finset (Fin 32)).fold max (Ideal.ofBits .f32 0xFF800000#32)
      (fun l => max (merged w s la lb b R ⟨32 * g.val + l.val, by omega⟩) (-merged w s la lb b R ⟨32 * g.val + l.val, by omega⟩))
    * Ideal.ofBits .f32 0x3B124925#32

/-- The group's exponent. -/
def expo (b : Fin 2) (R : Fin 14336) (g : Fin 256) : BitVec 32 := IntOp.subi (Exponent.field (scale w s la lb b R g)) 126#32

/-- The quantized code: the merged weight over the group's power of two, clamped to the format's range. -/
def code (b : Fin 2) (R : Fin 14336) (C : Fin 8192) : EReal :=
  min (Ideal.ofBits .f32 0x43E00000#32) (max (Ideal.ofBits .f32 0xC3E00000#32) (merged w s la lb b R C
    * Ideal.exp2 (Ideal.ofBits .f32 0x00000000#32 - (((expo w s la lb b R ⟨C.val / 32, by omega⟩).toInt : ℝ) : EReal))))

/-- The stored exponent byte. -/
def byte (b : Fin 2) (R : Fin 14336) (g : Fin 256) : BitVec 8 := (IntOp.addi (expo w s la lb b R g) 127#32).setWidth 8

end

end Cert.Spec

end
-- ==== Proof.KernelValue.lean ====
/- The kernel's two output arrays at the ideal values: each grid point writes its block of the specification's two
   arrays, and the blocks cover them. -/
module

public import proofs.«01_k».proof.Proof.KernelTile
public import proofs.«01_k».proof.Proof.KernelFrame
public import proofs.«01_k».proof.Proof.Spec

@[expose] public section

set_option maxRecDepth 16384

noncomputable section

namespace Cert.KernelIdeal.Hand

open Cert.KernelIdeal Cert.KernelIdeal.Gen
open Idealize.ShloMosaic hiding ix1 ix2 ix3 ix4 ix5
open Idealize.ShloMosaic.TcCoe Idealize.ShloMosaic.ValueIdx Idealize.SL.Sem
open Idealize.ShloMosaic.Pipeline (Dat)

/-! ## Twice a sum -/

/-- The kernel's factor 2, a bf16. -/
theorem two_bf16 : Ideal.ofBits .bf16 0x4000#16 = ((2 : ℝ) : EReal) := by
  simp [Ideal.ofBits, Ideal.ieee, -EReal.coe_mul]
  norm_num
/-- The reference's factor 2, a float. -/
theorem two_f32 : Ideal.ofBits .f32 0x40000000#32 = ((2 : ℝ) : EReal) := by
  simp [Ideal.ofBits, Ideal.ieee, -EReal.coe_mul]
  norm_num

/-- A nonnegative real times a sum is the sum of the products, infinities included. -/
theorem coe_mul_sum {ι : Type} (r : ℝ) (hr : 0 ≤ r) (S : Finset ι) (f : ι → EReal) : (r : EReal) * ∑ i ∈ S, f i = ∑ i ∈ S, (r : EReal) * f i := by
  induction S using Finset.cons_induction with
  | empty => simp
  | cons a S ha ih =>
    rw [Finset.sum_cons, Finset.sum_cons, ← ih]
    exact EReal.left_distrib_of_nonneg_of_ne_top (EReal.coe_nonneg.2 hr) (EReal.coe_ne_top r) _ _

/-- The factor 2 on the transposed A is the factor 2 on the product. -/
theorem lowrank_eq (a b : Fin 16 → EReal) :
    ∑ q, (a q * Ideal.ofBits .bf16 0x4000#16) * b q = Ideal.ofBits .f32 0x40000000#32 * ∑ q, b q * a q := by
  rw [two_bf16, two_f32, coe_mul_sum 2 (by norm_num)]
  refine Finset.sum_congr rfl fun q _ => ?_
  rw [mul_comm (a q), mul_assoc, mul_comm (a q)]

/-! ## The scratch operands -/

/-- The transposed, doubled A of 128 columns. -/
theorem pay1_apply (v : Vec Ideal S1x16x128 .bf16) (k : Fin 128) (q : Fin 16) :
    k0_pay1 v (ix2 k q) = (v (ix3 0 q k) * Ideal.ofBits .bf16 0x4000#16 : EReal) := by
  have h : k0_pay1 v (ix2 k q) = shapeCast S128x16 (transpose S128x16 [1, 0] (fun j : S16x128.Idx => (shapeCast S16x128 v shapeCasts_S1x16x128_S16x128 j * Ideal.ofBits .bf16 0x4000#16 : EReal)) transposes_S16x128_p1_0_S128x16) shapeCasts_S128x16_S128x16 (ix2 k q) := rfl
  rw [h, shapeCast_apply _ _ (ix2 k q) (ix2 k q) rfl,
    transpose_apply _ _ _ (ix2 k q) (ix2 q k) (fun b => by match b with | ⟨0, _⟩ => rfl | ⟨1, _⟩ => rfl),
    shapeCast_apply v _ (ix2 q k) (ix3 0 q k) (by
      rw [rowMajor_val3 _ 2048 128 rfl rfl, rowMajor_val2 _ 128 rfl]
      show 0 * 2048 + q.val * 128 + k.val = q.val * 128 + k.val
      omega)]

/-- The transposed B. -/
theorem pay2_apply (v : Vec Ideal S1x256x16 .bf16) (q : Fin 16) (r : Fin 256) : k0_pay2 v (ix2 q r) = v (ix3 0 r q) := by
  have h : k0_pay2 v (ix2 q r) = shapeCast S16x256 (transpose S16x256 [1, 0] (shapeCast S256x16 v shapeCasts_S1x256x16_S256x16) transposes_S256x16_p1_0_S16x256) shapeCasts_S16x256_S16x256 (ix2 q r) := rfl
  rw [h, shapeCast_apply _ _ (ix2 q r) (ix2 q r) rfl,
    transpose_apply _ _ _ (ix2 q r) (ix2 r q) (fun b => by match b with | ⟨0, _⟩ => rfl | ⟨1, _⟩ => rfl),
    shapeCast_apply v _ (ix2 r q) (ix3 0 r q) (by
      rw [rowMajor_val3 _ 4096 16 rfl rfl, rowMajor_val2 _ 16 rfl]
      show 0 * 4096 + r.val * 16 + q.val = r.val * 16 + q.val
      omega)]

/-- The scratch of the transposed, doubled A. -/
theorem AT_apply (x2 : Vec Ideal S1x16x8192 .bf16) (C : Fin 8192) (q : Fin 16) :
    AT x2 (ix2 C q) = (x2 (ix3 0 q C) * Ideal.ofBits .bf16 0x4000#16 : EReal) := by
  unfold AT
  refine (pay1_apply _ _ _).trans (congrArg (fun z : EReal => z * Ideal.ofBits .bf16 0x4000#16) (congrArg x2 (funext fun d => Fin.ext ?_)))
  match d with
  | ⟨0, _⟩ => rfl
  | ⟨1, _⟩ => rfl
  | ⟨2, _⟩ => show 128 * (C.val / 128) + C.val % 128 = C.val; omega

/-! ## A block of the results, of the blocks of the arguments -/

section Block

variable (W : Vec Ideal S2x14336x8192 .fp8e4m3) (S : Vec Ideal S2x112x64 .f32) (A : Vec Ideal S2x16x8192 .bf16) (B : Vec Ideal S2x14336x16 .bf16)
  (i : grid0.Coords) (x0 : Vec Ideal S2x112x64 .f32) (x1 : Vec Ideal S1x256x8192 .fp8e4m3) (x2 : Vec Ideal S1x16x8192 .bf16) (x3 : Vec Ideal S1x256x16 .bf16)

/-- The blocks at point `i` are the arrays' rows `256 * i 1 ..` of matrix `i 0`; the scales are read whole. -/
structure Blocks : Prop where
  h0 : x0 = S
  h1 : ∀ (r : Fin 256) (R : Fin 14336) (C : Fin 8192), R.val = 256 * (i 1).val + r.val → x1 (ix3 0 r C) = W (ix3 (i 0) R C)
  h2 : ∀ (q : Fin 16) (C : Fin 8192), x2 (ix3 0 q C) = A (ix3 (i 0) q C)
  h3 : ∀ (r : Fin 256) (R : Fin 14336) (q : Fin 16), R.val = 256 * (i 1).val + r.val → x3 (ix3 0 r q) = B (ix3 (i 0) R q)

variable {W S A B i x0 x1 x2 x3} (H : Blocks W S A B i x0 x1 x2 x3)
include H

/-- A tile's merged weights are the specification's. -/
theorem tileX_eq (n : Fin 64) (k : Fin 128) (r : Fin 256) (R : Fin 14336) (C : Fin 8192) (hR : R.val = 256 * (i 1).val + r.val) (hC : C.val = 128 * n.val + k.val) :
    tileX (wT x1 n) (sT x0 i 0 n) (sT x0 i 1 n) (k0_pay2 x3) (aT (AT x2) n) k r = Spec.merged W S A B (i 0) R C := by
  have hk := k.isLt
  have hr := r.isLt
  have hCe : (⟨128 * n.val + k.val, by omega⟩ : Fin 8192) = C := Fin.ext hC.symm
  unfold tileX Spec.merged
  refine congrArg₂ (fun x y : EReal => x + y) (congrArg₂ (fun x y : EReal => x * y) ?_ ?_) ?_
  · show x1 (ix3 0 r ⟨128 * n.val + k.val, _⟩) = _
    rw [hCe]
    exact H.h1 r R C hR
  · unfold rowScale sT
    rw [H.h0]
    by_cases h : r.val < 128
    · rw [if_pos h]
      refine congrArg S (funext fun d => Fin.ext ?_)
      match d with
      | ⟨0, _⟩ => rfl
      | ⟨1, _⟩ => show 2 * (i 1).val + 0 = R.val / 128; omega
      | ⟨2, _⟩ => show n.val = C.val / 128; omega
    · rw [if_neg h]
      refine congrArg S (funext fun d => Fin.ext ?_)
      match d with
      | ⟨0, _⟩ => rfl
      | ⟨1, _⟩ => show 2 * (i 1).val + 1 = R.val / 128; omega
      | ⟨2, _⟩ => show n.val = C.val / 128; omega
  · rw [← lowrank_eq (fun q => A (ix3 (i 0) q C)) (fun q => B (ix3 (i 0) R q))]
    refine Finset.sum_congr rfl fun q _ => ?_
    have ha : aT (AT x2) n (ix2 k q) = (A (ix3 (i 0) q C) * Ideal.ofBits .bf16 0x4000#16 : EReal) := by
      show AT x2 (ix2 ⟨128 * n.val + k.val, _⟩ q) = _
      rw [hCe, AT_apply, H.h2]
    rw [ha, pay2_apply, H.h3 r R q hR]

/-- A tile's group scales are the specification's. -/
theorem grpA_eq (n : Fin 64) (g : Fin 4) (r : Fin 256) (R : Fin 14336) (G : Fin 256) (hR : R.val = 256 * (i 1).val + r.val) (hG : G.val = 4 * n.val + g.val) :
    grpA (wT x1 n) (sT x0 i 0 n) (sT x0 i 1 n) (k0_pay2 x3) (aT (AT x2) n) g r = Spec.scale W S A B (i 0) R G := by
  unfold grpA Spec.scale
  refine congrArg (fun z : EReal => z * Ideal.ofBits .f32 0x3B124925#32) ?_
  refine congrArg (fun f => (Finset.univ : Finset (Fin 32)).fold max (Ideal.ofBits .f32 0xFF800000#32) f) (funext fun l : Fin 32 => ?_)
  rw [tileX_eq H n ⟨32 * g.val + l.val, by omega⟩ r R ⟨32 * G.val + l.val, by omega⟩ hR (by show 32 * G.val + l.val = 128 * n.val + (32 * g.val + l.val); omega)]

/-- The point's codes are the specification's. -/
theorem QB_eq (r : Fin 256) (R : Fin 14336) (C : Fin 8192) (hR : R.val = 256 * (i 1).val + r.val) :
    QB i x0 x1 x2 x3 (ix3 0 r C) = Spec.code W S A B (i 0) R C := by
  have hC := C.isLt
  have h : QB i x0 x1 x2 x3 (ix3 0 r C)
      = qpay (wT x1 ⟨C.val / 128, by omega⟩) (sT x0 i 0 ⟨C.val / 128, by omega⟩) (sT x0 i 1 ⟨C.val / 128, by omega⟩) (k0_pay2 x3) (aT (AT x2) ⟨C.val / 128, by omega⟩) (ix3 0 r ⟨C.val % 128, by omega⟩) := rfl
  rw [h, qpay_apply, tileX_eq H ⟨C.val / 128, by omega⟩ ⟨C.val % 128, by omega⟩ r R C hR (Nat.div_add_mod C.val 128).symm,
    grpA_eq H ⟨C.val / 128, by omega⟩ ⟨C.val % 128 / 32, by omega⟩ r R ⟨C.val / 32, by omega⟩ hR (by show C.val / 32 = 4 * (C.val / 128) + C.val % 128 / 32; omega),
    Exponent.scale_eq, min_comm, max_comm]
  unfold Spec.code Spec.expo
  with_reducible rfl

/-- The point's exponent bytes are the specification's. -/
theorem EB_eq (r : Fin 256) (R : Fin 14336) (g : Fin 256) (hR : R.val = 256 * (i 1).val + r.val) :
    EB i x0 x1 x2 x3 (ix3 0 r g) = Spec.byte W S A B (i 0) R g := by
  have hg := g.isLt
  have h : EB i x0 x1 x2 x3 (ix3 0 r g) = shapeCast S1x256x256 (fun j : S256x256.Idx => (transpose S256x256 [1, 0] (ES' i x0 x1 (AT x2) (k0_pay2 x3)) transposes_S256x256_p1_0_S256x256 j).setWidth 8) shapeCasts_S256x256_S1x256x256 (ix3 0 r g) := rfl
  have he : ES' i x0 x1 (AT x2) (k0_pay2 x3) (ix2 g r)
      = epay (wT x1 ⟨g.val / 4, by omega⟩) (sT x0 i 0 ⟨g.val / 4, by omega⟩) (sT x0 i 1 ⟨g.val / 4, by omega⟩) (k0_pay2 x3) (aT (AT x2) ⟨g.val / 4, by omega⟩) (ix2 ⟨g.val % 4, by omega⟩ r) := rfl
  rw [h, shapeCast_apply _ _ (ix3 0 r g) (ix2 r g) (by
      rw [rowMajor_val3 _ 65536 256 rfl rfl, rowMajor_val2 _ 256 rfl]
      show r.val * 256 + g.val = 0 * 65536 + r.val * 256 + g.val
      omega),
    transpose_apply _ _ _ (ix2 r g) (ix2 g r) (fun b => by match b with | ⟨0, _⟩ => rfl | ⟨1, _⟩ => rfl), he, epay_apply,
    grpA_eq H ⟨g.val / 4, by omega⟩ ⟨g.val % 4, by omega⟩ r R g hR (Nat.div_add_mod g.val 4).symm, ← Exponent.byte_eq]
  unfold Spec.byte Spec.expo
  with_reducible rfl

end Block

/-! ## The blocks of the arguments -/

/-- A point's two coordinates. -/
theorem coords0 : ∀ t : Fin cfg0.N, (grid0.coords t 0).val = t.val / 56 ∧ (grid0.coords t 1).val = t.val % 56 :=
  (by decide +kernel : ∀ t : Fin grid0.N, _)
/-- The scales' block is the whole array. -/
theorem idxA0 : ∀ t : Fin cfg0.N, win0_0.index t (0 : Fin 3) = 0 ∧ win0_0.index t (1 : Fin 3) = 0 ∧ win0_0.index t (2 : Fin 3) = 0 :=
  (by decide +kernel : ∀ t : Fin grid0.N, _)
/-- The codes' block at a point. -/
theorem idxA1 : ∀ t : Fin cfg0.N, win0_1.index t (0 : Fin 3) = (grid0.coords t 0).val ∧ win0_1.index t (1 : Fin 3) = (grid0.coords t 1).val ∧ win0_1.index t (2 : Fin 3) = 0 :=
  (by decide +kernel : ∀ t : Fin grid0.N, _)
/-- A's block at a point. -/
theorem idxA2 : ∀ t : Fin cfg0.N, win0_2.index t (0 : Fin 3) = (grid0.coords t 0).val ∧ win0_2.index t (1 : Fin 3) = 0 ∧ win0_2.index t (2 : Fin 3) = 0 :=
  (by decide +kernel : ∀ t : Fin grid0.N, _)
/-- B's block at a point. -/
theorem idxA3 : ∀ t : Fin cfg0.N, win0_3.index t (0 : Fin 3) = (grid0.coords t 0).val ∧ win0_3.index t (1 : Fin 3) = (grid0.coords t 1).val ∧ win0_3.index t (2 : Fin 3) = 0 :=
  (by decide +kernel : ∀ t : Fin grid0.N, _)
/-- The output codes' block at a point. -/
theorem idxA4 : ∀ t : Fin cfg0.N, win0_4.index t (0 : Fin 3) = (grid0.coords t 0).val ∧ win0_4.index t (1 : Fin 3) = (grid0.coords t 1).val ∧ win0_4.index t (2 : Fin 3) = 0 :=
  (by decide +kernel : ∀ t : Fin grid0.N, _)
/-- The exponent bytes' block at a point. -/
theorem idxA5 : ∀ t : Fin cfg0.N, win0_5.index t (0 : Fin 3) = (grid0.coords t 0).val ∧ win0_5.index t (1 : Fin 3) = (grid0.coords t 1).val ∧ win0_5.index t (2 : Fin 3) = 0 :=
  (by decide +kernel : ∀ t : Fin grid0.N, _)

variable (m : (ℓ : Loc nD τ sig) → Buf (Elt Ideal) ℓ) (ρ : Dev nD → PrngReg)

/-- The blocks the body reads at point `t` are the argument arrays' blocks there. -/
theorem blocks (c : Dev nD) (t : Fin cfg0.N) :
    Blocks (V m c main_arg0) (V m c main_arg1) (V m c main_arg2) (V m c main_arg3) (grid0.coords t) (iblk m c 0 t) (iblk m c 1 t) (iblk m c 2 t) (iblk m c 3 t) where
  h0 := by
    obtain ⟨e0, e1, e2⟩ := idxA0 t
    funext j
    show V m c main_arg1 (((cfg0.win 0).blk t).view.emb j) = V m c main_arg1 j
    refine congrArg _ (funext fun a => Fin.ext ?_)
    match a with
    | ⟨0, _⟩ => show win0_0.index t (0 : Fin 3) * 2 + 1 * (j 0).val = (j 0).val; omega
    | ⟨1, _⟩ => show win0_0.index t (1 : Fin 3) * 112 + 1 * (j 1).val = (j 1).val; omega
    | ⟨2, _⟩ => show win0_0.index t (2 : Fin 3) * 64 + 1 * (j 2).val = (j 2).val; omega
  h1 := by
    intro r R C hR
    obtain ⟨e0, e1, e2⟩ := idxA1 t
    show V m c main_arg0 (((cfg0.win 1).blk t).view.emb (ix3 0 r C)) = _
    refine congrArg _ (funext fun a => Fin.ext ?_)
    match a with
    | ⟨0, _⟩ => show win0_1.index t (0 : Fin 3) * 1 + 1 * 0 = (grid0.coords t 0).val; omega
    | ⟨1, _⟩ => show win0_1.index t (1 : Fin 3) * 256 + 1 * r.val = R.val; omega
    | ⟨2, _⟩ => show win0_1.index t (2 : Fin 3) * 8192 + 1 * C.val = C.val; omega
  h2 := by
    intro q C
    obtain ⟨e0, e1, e2⟩ := idxA2 t
    show V m c main_arg2 (((cfg0.win 2).blk t).view.emb (ix3 0 q C)) = _
    refine congrArg _ (funext fun a => Fin.ext ?_)
    match a with
    | ⟨0, _⟩ => show win0_2.index t (0 : Fin 3) * 1 + 1 * 0 = (grid0.coords t 0).val; omega
    | ⟨1, _⟩ => show win0_2.index t (1 : Fin 3) * 16 + 1 * q.val = q.val; omega
    | ⟨2, _⟩ => show win0_2.index t (2 : Fin 3) * 8192 + 1 * C.val = C.val; omega
  h3 := by
    intro r R q hR
    obtain ⟨e0, e1, e2⟩ := idxA3 t
    show V m c main_arg3 (((cfg0.win 3).blk t).view.emb (ix3 0 r q)) = _
    refine congrArg _ (funext fun a => Fin.ext ?_)
    match a with
    | ⟨0, _⟩ => show win0_3.index t (0 : Fin 3) * 1 + 1 * 0 = (grid0.coords t 0).val; omega
    | ⟨1, _⟩ => show win0_3.index t (1 : Fin 3) * 256 + 1 * r.val = R.val; omega
    | ⟨2, _⟩ => show win0_3.index t (2 : Fin 3) * 16 + 1 * q.val = q.val; omega

/-! ## The arrays after the run -/

/-- The specification's codes as one array. -/
def codes (W : Vec Ideal S2x14336x8192 .fp8e4m3) (S : Vec Ideal S2x112x64 .f32) (A : Vec Ideal S2x16x8192 .bf16) (B : Vec Ideal S2x14336x16 .bf16) : Vec Ideal S2x14336x8192 .fp8e4m3 :=
  fun y => Spec.code W S A B (y 0) (y 1) (y 2)
/-- The specification's exponent bytes as one array. -/
def bytes (W : Vec Ideal S2x14336x8192 .fp8e4m3) (S : Vec Ideal S2x112x64 .f32) (A : Vec Ideal S2x16x8192 .bf16) (B : Vec Ideal S2x14336x16 .bf16) : Vec Ideal S2x14336x256 .i8 :=
  fun y => Spec.byte W S A B (y 0) (y 1) (y 2)

/-- Where an index of a block of codes lies in the array. -/
theorem emb4 (t : Fin cfg0.N) (r : Fin 256) (R : Fin 14336) (C : Fin 8192) (hR : R.val = 256 * (grid0.coords t 1).val + r.val) :
    ((cfg0.win 4).blk t).view.emb (ix3 0 r C) = ix3 (grid0.coords t 0) R C := by
  obtain ⟨e0, e1, e2⟩ := idxA4 t
  funext a
  apply Fin.ext
  match a with
  | ⟨0, _⟩ => show win0_4.index t (0 : Fin 3) * 1 + 1 * 0 = (grid0.coords t 0).val; omega
  | ⟨1, _⟩ => show win0_4.index t (1 : Fin 3) * 256 + 1 * r.val = R.val; omega
  | ⟨2, _⟩ => show win0_4.index t (2 : Fin 3) * 8192 + 1 * C.val = C.val; omega

/-- Where an index of a block of exponent bytes lies in the array. -/
theorem emb5 (t : Fin cfg0.N) (r : Fin 256) (R : Fin 14336) (g : Fin 256) (hR : R.val = 256 * (grid0.coords t 1).val + r.val) :
    ((cfg0.win 5).blk t).view.emb (ix3 0 r g) = ix3 (grid0.coords t 0) R g := by
  obtain ⟨e0, e1, e2⟩ := idxA5 t
  funext a
  apply Fin.ext
  match a with
  | ⟨0, _⟩ => show win0_5.index t (0 : Fin 3) * 1 + 1 * 0 = (grid0.coords t 0).val; omega
  | ⟨1, _⟩ => show win0_5.index t (1 : Fin 3) * 256 + 1 * r.val = R.val; omega
  | ⟨2, _⟩ => show win0_5.index t (2 : Fin 3) * 256 + 1 * g.val = g.val; omega

/-- Row `r` of point `t`'s block, as a row of the array. -/
def row (t : Fin cfg0.N) (r : Fin 256) : Fin 14336 := ⟨256 * (grid0.coords t 1).val + r.val, by
  have h : (grid0.coords t 1).val < 56 := (grid0.coords t 1).isLt
  omega⟩

/-- What a point writes back to the codes is its block of the specification's. -/
theorem flushed4 (c : Dev nD) (t : Fin cfg0.N) :
    (dats m 0 c).flushed 4 t = ((cfg0.win 4).blk t).view.read (Elt Ideal) (codes (V m c main_arg0) (V m c main_arg1) (V m c main_arg2) (V m c main_arg3)) := by
  show (cfg0.win 4).cut (grid0.coords t) ((dats m 0 c).after 4 t) = _
  rw [after0_4]
  funext j
  obtain ⟨z, r, C, rfl⟩ : ∃ (z : Fin 1) (r : Fin 256) (C : Fin 8192), j = ix3 z r C := ⟨j 0, j 1, j 2, ValueIdx.eq_ix3 j⟩
  obtain rfl : z = 0 := Subsingleton.elim _ _
  show QB (grid0.coords t) (iblk m c 0 t) (iblk m c 1 t) (iblk m c 2 t) (iblk m c 3 t) (ix3 0 r C) = codes (V m c main_arg0) (V m c main_arg1) (V m c main_arg2) (V m c main_arg3) (((cfg0.win 4).blk t).view.emb (ix3 0 r C))
  rw [QB_eq (blocks m c t) r (row t r) C rfl, emb4 t r (row t r) C rfl]
  rfl

/-- What a point writes back to the exponent bytes is its block of the specification's. -/
theorem flushed5 (c : Dev nD) (t : Fin cfg0.N) :
    (dats m 0 c).flushed 5 t = ((cfg0.win 5).blk t).view.read (Elt Ideal) (bytes (V m c main_arg0) (V m c main_arg1) (V m c main_arg2) (V m c main_arg3)) := by
  show (cfg0.win 5).cut (grid0.coords t) ((dats m 0 c).after 5 t) = _
  rw [after0_5]
  funext j
  obtain ⟨z, r, g, rfl⟩ : ∃ (z : Fin 1) (r : Fin 256) (g : Fin 256), j = ix3 z r g := ⟨j 0, j 1, j 2, ValueIdx.eq_ix3 j⟩
  obtain rfl : z = 0 := Subsingleton.elim _ _
  show EB (grid0.coords t) (iblk m c 0 t) (iblk m c 1 t) (iblk m c 2 t) (iblk m c 3 t) (ix3 0 r g) = bytes (V m c main_arg0) (V m c main_arg1) (V m c main_arg2) (V m c main_arg3) (((cfg0.win 5).blk t).view.emb (ix3 0 r g))
  rw [EB_eq (blocks m c t) r (row t r) g rfl, emb5 t r (row t r) g rfl]
  rfl

/-- The point whose blocks hold row `R` of matrix `b`. -/
def ptOf (b : Fin 2) (R : Fin 14336) : Fin cfg0.N := ⟨56 * b.val + R.val / 256, by
  have h : cfg0.N = 112 := by decide +kernel
  omega⟩

/-- That point's coordinates. -/
theorem ptOf_coords (b : Fin 2) (R : Fin 14336) : grid0.coords (ptOf b R) 0 = b ∧ R.val = 256 * (grid0.coords (ptOf b R) 1).val + R.val % 256 := by
  obtain ⟨e0, e1⟩ := coords0 (ptOf b R)
  have hv : (ptOf b R).val = 56 * b.val + R.val / 256 := rfl
  have hR := R.isLt
  refine ⟨Fin.ext (by rw [e0, hv]; omega), ?_⟩
  rw [e1, hv]
  omega

/-- Every index of the codes is in the block of some point. -/
theorem covered4 (y : S2x14336x8192.Idx) : ∃ t : Fin cfg0.N, (cfg0.win 4).flush t = true ∧ y ∈ ((cfg0.win 4).blk t).view.set := by
  obtain ⟨b, R, C, rfl⟩ : ∃ (b : Fin 2) (R : Fin 14336) (C : Fin 8192), y = ix3 b R C := ⟨y 0, y 1, y 2, ValueIdx.eq_ix3 y⟩
  obtain ⟨e0, e1⟩ := ptOf_coords b R
  refine ⟨ptOf b R, flush0_4 _, ?_⟩
  have h := ((cfg0.win 4).blk (ptOf b R)).view.emb_mem_set (ix3 0 ⟨R.val % 256, by omega⟩ C)
  rw [emb4 (ptOf b R) ⟨R.val % 256, by omega⟩ R C e1, e0] at h
  exact h

/-- Every index of the exponent bytes is in the block of some point. -/
theorem covered5 (y : S2x14336x256.Idx) : ∃ t : Fin cfg0.N, (cfg0.win 5).flush t = true ∧ y ∈ ((cfg0.win 5).blk t).view.set := by
  obtain ⟨b, R, g, rfl⟩ : ∃ (b : Fin 2) (R : Fin 14336) (g : Fin 256), y = ix3 b R g := ⟨y 0, y 1, y 2, ValueIdx.eq_ix3 y⟩
  obtain ⟨e0, e1⟩ := ptOf_coords b R
  refine ⟨ptOf b R, flush0_5 _, ?_⟩
  have h := ((cfg0.win 5).blk (ptOf b R)).view.emb_mem_set (ix3 0 ⟨R.val % 256, by omega⟩ g)
  rw [emb5 (ptOf b R) ⟨R.val % 256, by omega⟩ R g e1, e0] at h
  exact h

/-- The codes array after the run. -/
theorem final4 (c : Dev nD) : (dats m 0 c).arrAt 4 cfg0.N = codes (V m c main_arg0) (V m c main_arg1) (V m c main_arg2) (V m c main_arg3) :=
  (dats m 0 c).arrAt_eq_of_cover 4 _ (fun t _ => flushed4 m c t) covered4
/-- The exponent bytes array after the run. -/
theorem final5 (c : Dev nD) : (dats m 0 c).arrAt 5 cfg0.N = bytes (V m c main_arg0) (V m c main_arg1) (V m c main_arg2) (V m c main_arg3) :=
  (dats m 0 c).arrAt_eq_of_cover 5 _ (fun t _ => flushed5 m c t) covered5

/-- The kernel's run: the two results are the specification's codes and exponent bytes of the arguments, which stay
    as launched. -/
theorem run : θ_run defs (onTc (τ := τ) (main (F := Ideal))) ⟨m, fun _ => 0, ρ⟩ (fun r => ∀ c : Dev nD,
      r.2.mem ((c.tc : Thread nD τ).loc main_v0_0) = codes (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = bytes (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(((h c).1 4).trans (final4 m c)).trans (by rw [V_main_arg0, V_main_arg1, V_main_arg2, V_main_arg3]),
      (((h c).1 5).trans (final5 m c)).trans (by rw [V_main_arg0, V_main_arg1, V_main_arg2, V_main_arg3]),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.KernelIdeal.Hand

end
-- ==== Proof.RefValue.lean ====
/- The reference's two results at the ideal values, index by index. -/
module

public import proofs.«01_k».proof.Proof.Gen.ReferenceIdeal.Value
public import proofs.«01_k».proof.Proof.Spec
public import Idealize.ShloMosaic.Lib.Pointwise.Reshape
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic hiding ix1 ix2 ix3 ix4 ix5
open Idealize.ShloMosaic.TcCoe Idealize.ShloMosaic.ValueIdx

variable (w : Vec Ideal S2x14336x8192 .fp8e4m3) (s : Vec Ideal S2x112x64 .f32) (la : Vec Ideal S2x16x8192 .bf16) (lb : Vec Ideal S2x14336x16 .bf16)

/-! ## The merged weights -/

/-- The low-rank product at an index. -/
theorem prod_apply (b : Fin 2) (R : Fin 14336) (C : Fin 8192) :
    (FloatOps.matmul (F := Ideal) (φ₁ := .bf16) (φ₂ := .bf16) dot_S2x14336x16_S2x16x8192_S2x14336x8192_2_1_1_2_0_0 none lb la (constant S2x14336x8192 .f32 0x00000000#32)) (ix3 b R C)
      = ∑ q : Fin 16, (lb (ix3 b R q) : EReal) * la (ix3 b q C) := by
  have hr : dot_S2x14336x16_S2x16x8192_S2x14336x8192_2_1_1_2_0_0.contr.rank = 1 := rfl
  have hs : dot_S2x14336x16_S2x16x8192_S2x14336x8192_2_1_1_2_0_0.contr.size ⟨0, by rw [hr]; exact Nat.one_pos⟩ = 16 := rfl
  rw [Ideal.matmul_constant_zero_apply, ← Equiv.sum_comp (contrEquiv1 _ 16 hr hs).symm]
  refine Finset.sum_congr rfl fun k _ => ?_
  have hk := contrEquiv1_symm_val _ 16 hr hs k
  have el : dot_S2x14336x16_S2x16x8192_S2x14336x8192_2_1_1_2_0_0.lhsIdx (ix3 b R C) ((contrEquiv1 _ 16 hr hs).symm k) = ix3 b R k := by
    funext a; apply Fin.ext
    match a with
    | ⟨0, _⟩ => rfl
    | ⟨1, _⟩ => rfl
    | ⟨2, _⟩ => exact hk
  have er : dot_S2x14336x16_S2x16x8192_S2x14336x8192_2_1_1_2_0_0.rhsIdx (ix3 b R C) ((contrEquiv1 _ 16 hr hs).symm k) = ix3 b k C := by
    funext a; apply Fin.ext
    match a with
    | ⟨0, _⟩ => rfl
    | ⟨1, _⟩ => exact hk
    | ⟨2, _⟩ => rfl
  rw [el, er]

/-- An index of the array as an index of its 128 x 128 blocks. -/
def blockIdx (b : Fin 2) (R : Fin 14336) (C : Fin 8192) : S2x112x128x64x128.Idx :=
  ix5 b ⟨R.val / 128, by omega⟩ ⟨R.val % 128, by omega⟩ ⟨C.val / 128, by omega⟩ ⟨C.val % 128, by omega⟩

/-- The same place in row-major order. -/
theorem blockIdx_rowMajor (b : Fin 2) (R : Fin 14336) (C : Fin 8192) :
    (S2x112x128x64x128.rowMajor (blockIdx b R C)).val = (S2x14336x8192.rowMajor (ix3 b R C)).val := by
  rw [rowMajor_val5 _ 117440512 1048576 8192 128 rfl rfl rfl rfl, rowMajor_val3 _ 117440512 8192 rfl rfl]
  show b.val * 117440512 + R.val / 128 * 1048576 + R.val % 128 * 8192 + C.val / 128 * 128 + C.val % 128 = b.val * 117440512 + R.val * 8192 + C.val
  omega

/-- The block scales, spread over their blocks. -/
theorem scale_apply (b : Fin 2) (R : Fin 14336) (C : Fin 8192) :
    broadcastTo S2x112x128x64x128 (shapeCast S2x112x1x64x1 s shapeCasts_S2x112x64_S2x112x1x64x1) broadcasts_S2x112x1x64x1_S2x112x128x64x128 (blockIdx b R C)
      = s (ix3 b ⟨R.val / 128, by omega⟩ ⟨C.val / 128, by omega⟩) := by
  rw [broadcastTo_apply _ _ (blockIdx b R C) (ix5 b ⟨R.val / 128, by omega⟩ 0 ⟨C.val / 128, by omega⟩ 0) (fun a => by
      match a with | ⟨0, _⟩ => rfl | ⟨1, _⟩ => rfl | ⟨2, _⟩ => rfl | ⟨3, _⟩ => rfl | ⟨4, _⟩ => rfl),
    shapeCast_apply _ _ (ix5 b ⟨R.val / 128, by omega⟩ 0 ⟨C.val / 128, by omega⟩ 0) (ix3 b ⟨R.val / 128, by omega⟩ ⟨C.val / 128, by omega⟩) (by
      rw [rowMajor_val5 _ 7168 64 64 1 rfl rfl rfl rfl, rowMajor_val3 _ 7168 64 rfl rfl]
      show b.val * 7168 + R.val / 128 * 64 + C.val / 128 = b.val * 7168 + R.val / 128 * 64 + 0 * 64 + C.val / 128 * 1 + 0
      omega)]

/-- The reference's merged weights, in groups of 32 columns. -/
theorem pay4_apply (b : Fin 2) (R : Fin 14336) (g : Fin 256) (l : Fin 32) :
    k0_pay4 w s lb la (ix4 b R g l) = Spec.merged w s la lb b R ⟨32 * g.val + l.val, by omega⟩ := by
  have h : k0_pay4 w s lb la (ix4 b R g l)
      = shapeCast S2x14336x256x32 (shapeCast S2x14336x8192 (fun j : S2x112x128x64x128.Idx =>
          ((shapeCast S2x112x128x64x128 w shapeCasts_S2x14336x8192_S2x112x128x64x128 j : EReal)
            * (broadcastTo S2x112x128x64x128 (shapeCast S2x112x1x64x1 s shapeCasts_S2x112x64_S2x112x1x64x1) broadcasts_S2x112x1x64x1_S2x112x128x64x128 j : EReal)
          + Ideal.ofBits .f32 0x40000000#32
            * (shapeCast S2x112x128x64x128 (FloatOps.matmul (F := Ideal) (φ₁ := .bf16) (φ₂ := .bf16) dot_S2x14336x16_S2x16x8192_S2x14336x8192_2_1_1_2_0_0 none lb la (constant S2x14336x8192 .f32 0x00000000#32)) shapeCasts_S2x14336x8192_S2x112x128x64x128 j : EReal) : EReal))
          shapeCasts_S2x112x128x64x128_S2x14336x8192) shapeCasts_S2x14336x8192_S2x14336x256x32 (ix4 b R g l) := rfl
  rw [h]
  generalize hC : (⟨32 * g.val + l.val, by omega⟩ : Fin 8192) = C
  have hCv : 32 * g.val + l.val = C.val := congrArg Fin.val hC
  rw [shapeCast_apply _ _ (ix4 b R g l) (ix3 b R C) (by
      rw [rowMajor_val4 _ 117440512 8192 32 rfl rfl rfl, rowMajor_val3 _ 117440512 8192 rfl rfl]
      show b.val * 117440512 + R.val * 8192 + C.val = b.val * 117440512 + R.val * 8192 + g.val * 32 + l.val
      omega),
    shapeCast_apply _ _ (ix3 b R C) (blockIdx b R C) (blockIdx_rowMajor b R C), scale_apply,
    shapeCast_apply w _ (blockIdx b R C) (ix3 b R C) (blockIdx_rowMajor b R C).symm,
    shapeCast_apply (FloatOps.matmul (F := Ideal) (φ₁ := .bf16) (φ₂ := .bf16) dot_S2x14336x16_S2x16x8192_S2x14336x8192_2_1_1_2_0_0 none lb la (constant S2x14336x8192 .f32 0x00000000#32)) _ (blockIdx b R C) (ix3 b R C) (blockIdx_rowMajor b R C).symm, prod_apply]
  rfl

/-! ## The groups' scales and exponents -/

/-- The largest magnitude of a group of 32. -/
theorem groupMax_apply (x : FVec Ideal S2x14336x256x32 .f32) (b : Fin 2) (R : Fin 14336) (g : Fin 256) :
    multiReduction .maximumf [3] S2x14336x256 (absf x) 0xFF800000#32 reduces_S2x14336x256x32_S2x14336x256 (.inl rfl) rfl (ix3 b R g)
      = (Finset.univ : Finset (Fin 32)).fold max (Ideal.ofBits .f32 0xFF800000#32) (fun l => max (x (ix4 b R g l)) (-x (ix4 b R g l))) := by
  have hm := Ideal.multiReduction_maximumf_single (φ := .f32) (absf x) 0xFF800000#32 reduces_S2x14336x256x32_S2x14336x256 (.inl rfl) rfl (ix3 b R g)
  refine hm.trans ?_
  refine congrArg (fun f => (Finset.univ : Finset (Fin 32)).fold max (Ideal.ofBits .f32 0xFF800000#32) f) (funext fun l : Fin 32 => ?_)
  have hl : reduces_S2x14336x256x32_S2x14336x256.lift (ix3 b R g) l = ix4 b R g l := funext fun d => by
    match d with | ⟨0, _⟩ => rfl | ⟨1, _⟩ => rfl | ⟨2, _⟩ => rfl | ⟨3, _⟩ => rfl
  exact congrArg (fun i => max (x i) (-x i)) hl

/-- A product of vectors, entry by entry. -/
theorem mulf_at {t : Shape} (x y : FVec Ideal t .f32) (j : t.Idx) : mulf x y j = (x j * y j : EReal) := rfl
/-- A constant at the ideal values. -/
theorem scalar_ofBits (c : BitVec 32) : (Scalar.ofBits .f32 c : Ideal .f32) = Ideal.ofBits .f32 c := rfl

/-- The largest magnitudes of the reference's groups. -/
theorem pay5_apply (b : Fin 2) (R : Fin 14336) (g : Fin 256) :
    k0_pay5 w s lb la (ix3 b R g)
      = (Finset.univ : Finset (Fin 32)).fold max (Ideal.ofBits .f32 0xFF800000#32)
          (fun l => max (Spec.merged w s la lb b R ⟨32 * g.val + l.val, by omega⟩) (-Spec.merged w s la lb b R ⟨32 * g.val + l.val, by omega⟩)) := by
  have h : k0_pay5 w s lb la = multiReduction .maximumf [3] S2x14336x256 (absf (k0_pay4 w s lb la)) 0xFF800000#32 reduces_S2x14336x256x32_S2x14336x256 (.inl rfl) rfl := by
    unfold k0_pay5
    generalize k0_pay4 w s lb la = x
    rfl
  rw [h]
  refine (groupMax_apply _ b R g).trans ?_
  refine congrArg (fun f => (Finset.univ : Finset (Fin 32)).fold max (Ideal.ofBits .f32 0xFF800000#32) f) (funext fun l : Fin 32 => ?_)
  rw [pay4_apply]

/-- The reference's group scales, of the largest magnitudes. -/
theorem pay6_mul (b : Fin 2) (R : Fin 14336) (g : Fin 256) :
    k0_pay6 w s lb la (ix3 b R g) = (k0_pay5 w s lb la (ix3 b R g) * Ideal.ofBits .f32 0x3B124925#32 : EReal) := by
  unfold k0_pay6
  rw [mulf_at, broadcast_apply, scalar_ofBits]

/-- The reference's group scales. -/
theorem pay6_apply (b : Fin 2) (R : Fin 14336) (g : Fin 256) : k0_pay6 w s lb la (ix3 b R g) = Spec.scale w s la lb b R g := by
  rw [pay6_mul, pay5_apply]
  unfold Spec.scale
  with_reducible rfl

/-- The powers of two counted, one per entry. -/
def powers : FVec Ideal S1x1x1x252 .f32 := exp2 (sitofp .f32 (subi (iota .tc S1x1x1x252 32 [3] iota_S1x1x1x252_d3_w32) (broadcast S1x1x1x252 126#32)))

/-- A power of two of a vector, entry by entry. -/
theorem exp2_at {t : Shape} (x : FVec Ideal t .f32) (j : t.Idx) : exp2 x j = Ideal.exp2 (x j) := rfl
/-- A conversion of a vector of integers, entry by entry. -/
theorem sitofp_at {t : Shape} (x : IVec t 32) (j : t.Idx) : (sitofp .f32 x : FVec Ideal t .f32) j = (((x j).toInt : ℝ) : EReal) := rfl
/-- A difference of vectors of integers, entry by entry. -/
theorem subi_at {t : Shape} (x y : IVec t 32) (j : t.Idx) : subi x y j = IntOp.subi (x j) (y j) := rfl

/-- A power of two counted is a threshold. -/
theorem powers_apply (k : Fin 252) : powers (ix4 0 0 0 k) = Exponent.ofField (BitVec.ofNat 32 (k.val + 1)) := by
  unfold powers
  rw [exp2_at, sitofp_at, subi_at, iota_single_apply, broadcast_apply]
  exact Exponent.exp2_threshold k.val k.isLt

/-- Whether the group's scale reaches the `k`-th power of two, as a word. -/
def hit (x : FVec Ideal S2x14336x256 .f32) (p : FVec Ideal S1x1x1x252 .f32) : IVec S2x14336x256x252 32 :=
  extui 32 (cmpf .oge (broadcastTo S2x14336x256x252 (shapeCast S2x14336x256x1 x shapeCasts_S2x14336x256_S2x14336x256x1 : FVec Ideal S2x14336x256x1 .f32) broadcasts_S2x14336x256x1_S2x14336x256x252)
    (broadcastTo S2x14336x256x252 p broadcasts_S1x1x1x252_S2x14336x256x252)) natLt_1_32

/-- Whether a threshold is reached, entry by entry. -/
theorem hit_apply (x : FVec Ideal S2x14336x256 .f32) (p : FVec Ideal S1x1x1x252 .f32) (b : Fin 2) (R : Fin 14336) (g : Fin 256) (k : Fin 252) :
    hit x p (ix4 b R g k) = (Ideal.cmp .oge (x (ix3 b R g)) (p (ix4 0 0 0 k))).setWidth 32 := by
  have h : hit x p (ix4 b R g k)
      = (Ideal.cmp .oge (broadcastTo S2x14336x256x252 (shapeCast S2x14336x256x1 x shapeCasts_S2x14336x256_S2x14336x256x1) broadcasts_S2x14336x256x1_S2x14336x256x252 (ix4 b R g k))
          (broadcastTo S2x14336x256x252 p broadcasts_S1x1x1x252_S2x14336x256x252 (ix4 b R g k))).setWidth 32 := rfl
  rw [h, broadcastTo_apply _ _ (ix4 b R g k) (ix4 b R g 0) (fun a => by
      match a with | ⟨0, _⟩ => rfl | ⟨1, _⟩ => rfl | ⟨2, _⟩ => rfl | ⟨3, _⟩ => rfl),
    broadcastTo_apply p _ (ix4 b R g k) (ix4 0 0 0 k) (fun a => by
      match a with | ⟨0, _⟩ => rfl | ⟨1, _⟩ => rfl | ⟨2, _⟩ => rfl | ⟨3, _⟩ => rfl),
    shapeCast_apply _ _ (ix4 b R g 0) (ix3 b R g) (by
      rw [rowMajor_val4 _ 3670016 256 1 rfl rfl rfl, rowMajor_val3 _ 3670016 256 rfl rfl]
      show b.val * 3670016 + R.val * 256 + g.val = b.val * 3670016 + R.val * 256 + g.val * 1 + 0
      omega)]

/-- A sum of words over the last axis. -/
theorem count_apply (x : IVec S2x14336x256x252 32) (b : Fin 2) (R : Fin 14336) (g : Fin 256) :
    multiReductionI .add [3] S2x14336x256 x 0#32 reduces_S2x14336x256x252_S2x14336x256 rfl (ix3 b R g) = ∑ k : Fin 252, x (ix4 b R g k) := by
  have h1 := congrFun (multiReductionI_eq_reduceFold .add x 0#32 reduces_S2x14336x256x252_S2x14336x256 rfl) (ix3 b R g)
  have h2 := reduceFold_add_eq_sum reduces_S2x14336x256x252_S2x14336x256 (0#32 : BitVec 32) x (ix3 b R g)
  refine h1.trans (Eq.trans h2 ?_)
  rw [show (0#32 : BitVec 32) = 0 from rfl, zero_add, Shape.Reduces.sum_filter_drop_single]
  refine Finset.sum_congr rfl fun (k : Fin 252) _ => congrArg x (funext fun d => ?_)
  match d with | ⟨0, _⟩ => rfl | ⟨1, _⟩ => rfl | ⟨2, _⟩ => rfl | ⟨3, _⟩ => rfl

/-- How many powers of two the reference's group scales reach. -/
theorem pay7_apply (b : Fin 2) (R : Fin 14336) (g : Fin 256) :
    k0_pay7 w s lb la (ix3 b R g) = BitVec.ofNat 32 (min (Exponent.reached (Spec.scale w s la lb b R g)) 252) := by
  have h : k0_pay7 w s lb la
      = multiReductionI .add [3] S2x14336x256 (hit (k0_pay6 w s lb la) powers) 0#32 reduces_S2x14336x256x252_S2x14336x256 rfl := by
    unfold k0_pay7
    generalize k0_pay6 w s lb la = x
    rfl
  rw [h]
  refine (count_apply _ b R g).trans ?_
  rw [← Exponent.sum_reached]
  refine Finset.sum_congr rfl fun k _ => ?_
  rw [hit_apply, pay6_apply, powers_apply]

/-- The exponent from a largest magnitude, a count and a scale, entry by entry. -/
theorem pay1_gen (a : FVec Ideal S2x14336x256 .f32) (n : IVec S2x14336x256 32) (x : FVec Ideal S2x14336x256 .f32) (j : S2x14336x256.Idx) :
    k0_pay1 a (ori (cmpi .eq n (broadcast S2x14336x256 0#32)) (cmpf .oge x (broadcast S2x14336x256 (Scalar.ofBits .f32 0x7E800000#32)))) (subi n (broadcast S2x14336x256 126#32)) 0#32 j
      = Scalar.select (Ideal.cmp .oeq (a j) (Ideal.ofBits .f32 0x00000000#32)) 0#32 (Exponent.refExp (x j) (n j)) := rfl

/-- The reference's exponent. -/
theorem pay1_apply (b : Fin 2) (R : Fin 14336) (g : Fin 256) :
    k0_pay1 (k0_pay5 w s lb la) (k0_pay8 w s lb la) (k0_pay9 w s lb la) 0#32 (ix3 b R g) = Spec.expo w s la lb b R g := by
  have h : k0_pay1 (k0_pay5 w s lb la) (k0_pay8 w s lb la) (k0_pay9 w s lb la) 0#32 (ix3 b R g)
      = Scalar.select (Ideal.cmp .oeq (k0_pay5 w s lb la (ix3 b R g)) (Ideal.ofBits .f32 0x00000000#32)) 0#32
          (Exponent.refExp (k0_pay6 w s lb la (ix3 b R g)) (k0_pay7 w s lb la (ix3 b R g))) := by
    unfold k0_pay8 k0_pay9
    exact pay1_gen _ _ _ _
  have h0 : k0_pay5 w s lb la (ix3 b R g) = (0 : EReal) → Spec.scale w s la lb b R g = 0 := fun hz => by
    rw [← pay6_apply, pay6_mul, hz, zero_mul]
  rw [h, pay7_apply, pay6_apply, Exponent.refExp_eq, Exponent.guard_eq _ _ h0, Spec.expo]

/-! ## The results -/

/-- A value the body reads through whole-block loads is that value of the blocks. -/
theorem pay10_eq : k0_pay10 w s la lb = k0_pay5 w s lb la := by
  unfold k0_pay10
  rw [View.ld_unit_zero (S := S2x14336x8192) Value.hz0 _ w, View.ld_unit_zero (S := S2x112x64) Value.hz1 _ s, View.ld_unit_zero (S := S2x14336x16) Value.hz3 _ lb, View.ld_unit_zero (S := S2x16x8192) Value.hz2 _ la]

/-- A value the body reads through whole-block loads is that value of the blocks. -/
theorem pay11_eq : k0_pay11 w s la lb = k0_pay8 w s lb la := by
  unfold k0_pay11
  rw [View.ld_unit_zero (S := S2x14336x8192) Value.hz0 _ w, View.ld_unit_zero (S := S2x112x64) Value.hz1 _ s, View.ld_unit_zero (S := S2x14336x16) Value.hz3 _ lb, View.ld_unit_zero (S := S2x16x8192) Value.hz2 _ la]

/-- A value the body reads through whole-block loads is that value of the blocks. -/
theorem pay12_eq : k0_pay12 w s la lb = k0_pay9 w s lb la := by
  unfold k0_pay12
  rw [View.ld_unit_zero (S := S2x14336x8192) Value.hz0 _ w, View.ld_unit_zero (S := S2x112x64) Value.hz1 _ s, View.ld_unit_zero (S := S2x14336x16) Value.hz3 _ lb, View.ld_unit_zero (S := S2x16x8192) Value.hz2 _ la]

/-- The reference's codes. -/
theorem G4_apply (b : Fin 2) (R : Fin 14336) (C : Fin 8192) : Value.G4 w s la lb (ix3 b R C) = Spec.code w s la lb b R C := by
  unfold Value.G4
  rw [pay10_eq, pay11_eq, pay12_eq]
  generalize he : k0_pay1 (k0_pay5 w s lb la) (k0_pay8 w s lb la) (k0_pay9 w s lb la) 0#32 = e
  have h : k0_pay2 (k0_pay4 w s lb la) (k0_pay5 w s lb la) (k0_pay8 w s lb la) (k0_pay9 w s lb la) 0#32 (ix3 b R C)
      = shapeCast S2x14336x8192 (fun j : S2x14336x256x32.Idx => (min (Ideal.ofBits .f32 0x43E00000#32) (max (Ideal.ofBits .f32 0xC3E00000#32) ((k0_pay4 w s lb la j : EReal)
          * broadcastTo S2x14336x256x32 (shapeCast S2x14336x256x1 (fun i : S2x14336x256.Idx => (Ideal.exp2 (Ideal.ofBits .f32 0x00000000#32 - (((e i).toInt : ℝ) : EReal)) : EReal)) shapeCasts_S2x14336x256_S2x14336x256x1) broadcasts_S2x14336x256x1_S2x14336x256x32 j)) : EReal))
          shapeCasts_S2x14336x256x32_S2x14336x8192 (ix3 b R C) := by
    rw [← he]
    rfl
  rw [h, shapeCast_apply _ _ (ix3 b R C) (ix4 b R ⟨C.val / 32, by omega⟩ ⟨C.val % 32, by omega⟩) (by
      rw [rowMajor_val4 _ 117440512 8192 32 rfl rfl rfl, rowMajor_val3 _ 117440512 8192 rfl rfl]
      show b.val * 117440512 + R.val * 8192 + C.val / 32 * 32 + C.val % 32 = b.val * 117440512 + R.val * 8192 + C.val
      omega),
    broadcastTo_apply _ _ (ix4 b R ⟨C.val / 32, by omega⟩ ⟨C.val % 32, by omega⟩) (ix4 b R ⟨C.val / 32, by omega⟩ 0) (fun a => by
      match a with | ⟨0, _⟩ => rfl | ⟨1, _⟩ => rfl | ⟨2, _⟩ => rfl | ⟨3, _⟩ => rfl),
    shapeCast_apply _ _ (ix4 b R ⟨C.val / 32, by omega⟩ 0) (ix3 b R ⟨C.val / 32, by omega⟩) (by
      rw [rowMajor_val4 _ 3670016 256 1 rfl rfl rfl, rowMajor_val3 _ 3670016 256 rfl rfl]
      show b.val * 3670016 + R.val * 256 + C.val / 32 = b.val * 3670016 + R.val * 256 + C.val / 32 * 1 + 0
      omega), pay4_apply, ← he, pay1_apply]
  have hC : (⟨32 * (C.val / 32) + C.val % 32, by omega⟩ : Fin 8192) = C := Fin.ext (Nat.div_add_mod C.val 32)
  simp only [hC]
  rfl

/-- The reference's exponent bytes. -/
theorem G5_apply (b : Fin 2) (R : Fin 14336) (g : Fin 256) : Value.G5 w s la lb (ix3 b R g) = Spec.byte w s la lb b R g := by
  unfold Value.G5
  rw [pay10_eq, pay11_eq, pay12_eq]
  have h : k0_pay3 (k0_pay5 w s lb la) (k0_pay8 w s lb la) (k0_pay9 w s lb la) 0#32 (ix3 b R g)
      = (IntOp.addi (k0_pay1 (k0_pay5 w s lb la) (k0_pay8 w s lb la) (k0_pay9 w s lb la) 0#32 (ix3 b R g)) 127#32).setWidth 8 := rfl
  rw [h, pay1_apply, Spec.byte]

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.BitsFrame
public import proofs.«01_k».proof.Proof.KernelFrame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- The reference's codes, as one array, are the specification's. -/
theorem ref_codes (W : Vec Ideal Cert.KernelIdeal.S2x14336x8192 .fp8e4m3) (S : Vec Ideal Cert.KernelIdeal.S2x112x64 .f32) (A : Vec Ideal Cert.KernelIdeal.S2x16x8192 .bf16) (B : Vec Ideal Cert.KernelIdeal.S2x14336x16 .bf16) :
    Cert.ReferenceIdeal.Value.G4 (F := Ideal) W S A B = Cert.KernelIdeal.Hand.codes W S A B := by
  funext y
  obtain ⟨b, R, C, rfl⟩ : ∃ (b : Fin 2) (R : Fin 14336) (C : Fin 8192), y = ValueIdx.ix3 b R C := ⟨y 0, y 1, y 2, ValueIdx.eq_ix3 y⟩
  exact Cert.ReferenceIdeal.Hand.G4_apply W S A B b R C

/-- The reference's exponent bytes, as one array, are the specification's. -/
theorem ref_bytes (W : Vec Ideal Cert.KernelIdeal.S2x14336x8192 .fp8e4m3) (S : Vec Ideal Cert.KernelIdeal.S2x112x64 .f32) (A : Vec Ideal Cert.KernelIdeal.S2x16x8192 .bf16) (B : Vec Ideal Cert.KernelIdeal.S2x14336x16 .bf16) :
    Cert.ReferenceIdeal.Value.G5 (F := Ideal) W S A B = Cert.KernelIdeal.Hand.bytes W S A B := by
  funext y
  obtain ⟨b, R, g, rfl⟩ : ∃ (b : Fin 2) (R : Fin 14336) (g : Fin 256), y = ValueIdx.ix3 b R g := ⟨y 0, y 1, y 2, ValueIdx.eq_ix3 y⟩
  exact Cert.ReferenceIdeal.Hand.G5_apply W S A B b R g

/-- From memories agreeing on the four arguments, the kernel and the reference both end with the specification's codes
    and exponent bytes of them. -/
theorem algebraic : Cert.algebraic_KernelIdeal_ReferenceIdeal := by
  intro m g m' g' _ hargs
  refine ⟨_, _, Cert.KernelIdeal.Hand.run m g, ?_⟩
  refine (θ_run Cert.ReferenceIdeal.defs _ _).mono (fun r h c => ?_) (Cert.ReferenceIdeal.Value.run (F := Ideal) m' g')
  obtain ⟨h0, h1, h2, h3, h4, h5⟩ := h c
  obtain ⟨e0, e1, e2, e3⟩ := hargs c
  refine ⟨h0.trans ?_, h1.trans ?_, h2, h3, h4, h5⟩
  · rw [e0, e1, e2, e3]
    exact ref_codes _ _ _ _
  · rw [e0, e1, e2, e3]
    exact ref_bytes _ _ _ _

/-- Everything claimed. -/
theorem claim : Cert.Claim :=
  ⟨Cert.Kernel.Gen.facts, Cert.KernelIdeal.Gen.facts, Cert.ReferenceIdeal.Gen.facts,
    fun m ρ _ => Cert.Kernel.Hand.frame m ρ,
    fun m ρ _ => Cert.KernelIdeal.Hand.frame m ρ,
    fun m ρ _ => Cert.ReferenceIdeal.Gen.frame m ρ,
    trivial,
    algebraic⟩

end Cert.Proof

end
